-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_inv_ln2" .f32 0x4038AA3B#32 ((2 * (Real.log 2)⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x1024 : Shape := ⟨2, ![2048, 1024]⟩
abbrev S2048 : Shape := ⟨1, ![2048]⟩
abbrev S8192x1024 : Shape := ⟨2, ![8192, 1024]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1024x8192 : Shape := ⟨2, ![1024, 8192]⟩

class Facts : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  reducesTo_S8192x1024_S8192_d1 : S8192x1024.ReducesTo [1] S8192
  bcast_S8192_S1x8192_1 : S8192.BroadcastsInDim S1x8192 (![1] : Fin 1 → Fin S1x8192.rank)
  bcast_S2048x1_S2048x8192_0_1 : S2048x1.BroadcastsInDim S2048x8192 (![0, 1] : Fin 2 → Fin S2048x8192.rank)
  bcast_S1x8192_S2048x8192_0_1 : S1x8192.BroadcastsInDim S2048x8192 (![0, 1] : Fin 2 → Fin S2048x8192.rank)
  transposes_S8192x1024_S1024x8192_1_0 : S8192x1024.Transposes [1, 0] S1024x8192
  bcast_S_S2048x8192 : S_.BroadcastsInDim S2048x8192 (![] : Fin 0 → Fin S2048x8192.rank)
  reducesTo_S2048x8192_S2048_d1 : S2048x8192.ReducesTo [1] S2048
  bcast_S_S2048x1024 : S_.BroadcastsInDim S2048x1024 (![] : Fin 0 → Fin S2048x1024.rank)
  bcast_S_S2048 : S_.BroadcastsInDim S2048 (![] : Fin 0 → Fin S2048.rank)
  bcast_S_S8192x1024 : S_.BroadcastsInDim S8192x1024 (![] : Fin 0 → Fin S8192x1024.rank)
  dot_S2048x1024_S1024x8192_S2048x8192_1_0_0_1_n_n_wf : DotDims.WF S2048x1024 S1024x8192 S2048x8192 [1] [0] [0] [1] [] []

variable [Facts]

def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def fn_part2 {F : FTy → Type} [FloatOps F] (main_v24 : IVec S2048 1) (main_v29 : IVec S2048 1) (main_v32 : IVec S2048x1024 1) (main_v37 : IVec S2048 1) (main_v38 : FVec F S8192x1024 .f32) : IVec S2048x1024 1 × IVec S2048 1 × IVec S8192x1024 1 × IVec S2048 1 :=
  let main_cst_7 : FVec F S_ .f32 := constant S_ .f32 0x7F800000#32
  let main_v39 : FVec F S8192x1024 .f32 := broadcastInDim S8192x1024 ![] bcast_S_S8192x1024 main_cst_7
  let main_v40 : IVec S8192x1024 1 := cmpf .olt main_v38 main_v39
  let main_v41 : IVec S2048 1 := andi main_v24 main_v29
  let main_v42 : IVec S2048 1 := noti main_v41
  (main_v32, main_v37, main_v40, main_v42)

def fn_part1 {F : FTy → Type} [FloatOps F] (main_arg0 : FVec F S2048x1024 .f32) (main_arg1 : IVec S2048 32) (main_arg2 : FVec F S8192x1024 .f32) (main_v18 : IVec S2048x8192 1) (main_v19 : IVec S2048x8192 32) : IVec S2048x1024 1 × IVec S2048 1 × IVec S8192x1024 1 × IVec S2048 1 :=
  let main_v20 : IVec S2048x1 32 := broadcastInDim S2048x1 ![0] bcast_S2048_S2048x1_0 main_arg1
  let main_v21 : IVec S2048x8192 32 := broadcastInDim S2048x8192 ![0, 1] bcast_S2048x1_S2048x8192_0_1 main_v20
  let main_v22 : IVec S2048x8192 1 := cmpi .eq main_v19 main_v21
  let main_v23 : IVec S2048x8192 1 := andi main_v18 main_v22
  let main_c : IVec S_ 1 := constantI S_ 1 0#1
  let main_v24 : IVec S2048 1 := (fun x v => Host.reduce IntOp.ori x v reducesTo_S2048x8192_S2048_d1 h_S_) main_v23 main_c
  let main_v25 : IVec S2048x1 32 := broadcastInDim S2048x1 ![0] bcast_S2048_S2048x1_0 main_arg1
  let main_v26 : IVec S2048x8192 32 := broadcastInDim S2048x8192 ![0, 1] bcast_S2048x1_S2048x8192_0_1 main_v25
  let main_v27 : IVec S2048x8192 1 := cmpi .slt main_v19 main_v26
  let main_v28 : IVec S2048x8192 1 := andi main_v18 main_v27
  let main_c_3 : IVec S_ 1 := constantI S_ 1 0#1
  let main_v29 : IVec S2048 1 := (fun x v => Host.reduce IntOp.ori x v reducesTo_S2048x8192_S2048_d1 h_S_) main_v28 main_c_3
  let main_v30 : FVec F S2048x1024 .f32 := Host.absf main_arg0
  let main_cst_4 : FVec F S_ .f32 := constant S_ .f32 0x7F800000#32
  let main_v31 : FVec F S2048x1024 .f32 := broadcastInDim S2048x1024 ![] bcast_S_S2048x1024 main_cst_4
  let main_v32 : IVec S2048x1024 1 := cmpf .olt main_v30 main_v31
  let main_c_5 : IVec S_ 32 := constantI S_ 32 0#32
  let main_v33 : IVec S2048 32 := broadcastInDim S2048 ![] bcast_S_S2048 main_c_5
  let main_v34 : IVec S2048 1 := cmpi .sge main_arg1 main_v33
  let main_c_6 : IVec S_ 32 := constantI S_ 32 8192#32
  let main_v35 : IVec S2048 32 := broadcastInDim S2048 ![] bcast_S_S2048 main_c_6
  let main_v36 : IVec S2048 1 := cmpi .slt main_arg1 main_v35
  let main_v37 : IVec S2048 1 := andi main_v34 main_v36
  let main_v38 : FVec F S8192x1024 .f32 := Host.absf main_arg2
  fn_part2 (F := F) main_v24 main_v29 main_v32 main_v37 main_v38

def fn {F : FTy → Type} [FloatOps F] (main_arg0 : FVec F S2048x1024 .f32) (main_arg1 : IVec S2048 32) (main_arg2 : FVec F S8192x1024 .f32) : IVec S2048x1024 1 × IVec S2048 1 × IVec S8192x1024 1 × IVec S2048 1 :=
  let main_v0 : FVec F S2048x1024 .f32 := mulf main_arg0 main_arg0
  let main_cst : FVec F S_ .f32 := constant S_ .f32 0x00000000#32
  let main_v1 : FVec F S2048 .f32 := (fun x v => Host.reduceAdd x v reducesTo_S2048x1024_S2048_d1 h_S_) main_v0 main_cst
  let main_v2 : FVec F S2048x1 .f32 := broadcastInDim S2048x1 ![0] bcast_S2048_S2048x1_0 main_v1
  let main_v3 : FVec F S8192x1024 .f32 := mulf main_arg2 main_arg2
  let main_cst_0 : FVec F S_ .f32 := constant S_ .f32 0x00000000#32
  let main_v4 : FVec F S8192 .f32 := (fun x v => Host.reduceAdd x v reducesTo_S8192x1024_S8192_d1 h_S_) main_v3 main_cst_0
  let main_v5 : FVec F S1x8192 .f32 := broadcastInDim S1x8192 ![1] bcast_S8192_S1x8192_1 main_v4
  let main_v6 : FVec F S2048x8192 .f32 := broadcastInDim S2048x8192 ![0, 1] bcast_S2048x1_S2048x8192_0_1 main_v2
  let main_v7 : FVec F S2048x8192 .f32 := broadcastInDim S2048x8192 ![0, 1] bcast_S1x8192_S2048x8192_0_1 main_v5
  let main_v8 : FVec F S2048x8192 .f32 := addf main_v6 main_v7
  let main_v9 : FVec F S1024x8192 .f32 := (transpose S1024x8192 [1, 0] · transposes_S8192x1024_S1024x8192_1_0) main_arg2
  let main_v10 : FVec F S2048x8192 .f32 := (fun l r => Host.dotGeneral dot_S2048x1024_S1024x8192_S2048x8192_1_0_0_1_n_n none l r) main_arg0 main_v9
  let main_cst_1 : FVec F S_ .f32 := constant S_ .f32 0x40000000#32
  let main_v11 : FVec F S2048x8192 .f32 := broadcastInDim S2048x8192 ![] bcast_S_S2048x8192 main_cst_1
  let main_v12 : FVec F S2048x8192 .f32 := mulf main_v11 main_v10
  let main_v13 : FVec F S2048x8192 .f32 := subf main_v8 main_v12
  let main_v14 : FVec F S2048x8192 .f32 := Host.negf main_v13
  let main_cst_2 : FVec F S_ .f32 := constant S_ .f32 0xFF800000#32
  let main_v15 : FVec F S2048 .f32 := (fun x v => Host.reduce FloatOps.maximumf x v reducesTo_S2048x8192_S2048_d1 h_S_) main_v14 main_cst_2
  let main_v16 : FVec F S2048x1 .f32 := broadcastInDim S2048x1 ![0] bcast_S2048_S2048x1_0 main_v15
  let main_v17 : FVec F S2048x8192 .f32 := broadcastInDim S2048x8192 ![0, 1] bcast_S2048x1_S2048x8192_0_1 main_v16
  let main_v18 : IVec S2048x8192 1 := cmpf .oeq main_v14 main_v17
  let main_v19 : IVec S2048x8192 32 := iotaInDim S2048x8192 32 1
  fn_part1 (F := F) main_arg0 main_arg1 main_arg2 main_v18 main_v19
-- ==== Kernel.lean ====
abbrev S2048x1024 : Shape := ⟨2, ![2048, 1024]⟩
abbrev S2048 : Shape := ⟨1, ![2048]⟩
abbrev S8192x1024 : Shape := ⟨2, ![8192, 1024]⟩
abbrev S1x1x2048 : Shape := ⟨3, ![1, 1, 2048]⟩
abbrev S1 : Shape := ⟨1, ![1]⟩
abbrev S2048x256 : Shape := ⟨2, ![2048, 256]⟩
abbrev S1024x1024 : Shape := ⟨2, ![1024, 1024]⟩
abbrev S1024x2048 : Shape := ⟨2, ![1024, 2048]⟩
abbrev S8x2048 : Shape := ⟨2, ![8, 2048]⟩
abbrev S256x2048 : Shape := ⟨2, ![256, 2048]⟩
abbrev S1024 : Shape := ⟨1, ![1024]⟩
abbrev S1024x1 : Shape := ⟨2, ![1024, 1]⟩
abbrev S1x2048 : Shape := ⟨2, ![1, 2048]⟩
abbrev S1x1x1 : Shape := ⟨3, ![1, 1, 1]⟩

abbrev nBuf : Space → Nat
  | .hbm => 6
  | .vmem => 13
  | .smem => 2
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S8192x1024, .f32⟩
  | .hbm, ⟨3, _⟩ => ⟨S1x1x2048, .i32⟩
  | .hbm, ⟨4, _⟩ => ⟨S1, .f32⟩
  | .hbm, ⟨5, _⟩ => ⟨S1, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x2048, .i32⟩
  | .local _ .vmem, ⟨9, _⟩ => ⟨S1024x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .smem, ⟨0, _⟩ => ⟨S1, .f32⟩
  | .local _ .smem, ⟨1, _⟩ => ⟨S1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v117 : BitVec 1 := Scalar.cmpi .eq arg0 c3_i32
  let v118 : BitVec 32 := Scalar.extui v117
  let c0_i32_55 : BitVec 32 := 0#32
  let v119 : BitVec 1 := Scalar.cmpi .ne v118 c0_i32_55
  v119

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | "two_inv_ln2" => some ((2 * (Real.log 2)⁻¹ : ℝ) : EReal)
  | _ => none
-- ==== ReferenceIdeal.lean ====
abbrev S2048x1024 : Shape := ⟨2, ![2048, 1024]⟩
abbrev S2048 : Shape := ⟨1, ![2048]⟩
abbrev S8192x1024 : Shape := ⟨2, ![8192, 1024]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1024x8192 : Shape := ⟨2, ![1024, 8192]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S1024x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S2048x8192, .i32⟩
  | .hbm, ⟨22, _⟩ => ⟨S_, .f32⟩
  | .hbm, ⟨23, _⟩ => ⟨S_, .i32⟩
  | .hbm, ⟨24, _⟩ => ⟨S2048, .f32⟩
  | .hbm, ⟨25, _⟩ => ⟨S2048, .i32⟩
  | .hbm, ⟨26, _⟩ => ⟨S2048, .i1⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1, .f32⟩
  | .hbm, ⟨45, _⟩ => ⟨S2048x8192, .f32⟩
  | .hbm, ⟨46, _⟩ => ⟨S2048x8192, .f32⟩
  | .hbm, ⟨47, _⟩ => ⟨S2048x1, .i32⟩
  | .hbm, ⟨48, _⟩ => ⟨S_, .i32⟩
  | .hbm, ⟨49, _⟩ => ⟨S2048x1, .i32⟩
  | .hbm, ⟨50, _⟩ => ⟨S2048x1, .i1⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S2048x1x1, .i32⟩
  | .hbm, ⟨56, _⟩ => ⟨S1, .i32⟩
  | .hbm, ⟨57, _⟩ => ⟨S_, .i32⟩
  | .hbm, ⟨58, _⟩ => ⟨S2048x1x1, .i32⟩
  | .hbm, ⟨59, _⟩ => ⟨S2048x1x1, .i1⟩
  | .hbm, ⟨60, _⟩ => ⟨S1x1x1, .i32⟩
  | .hbm, ⟨61, _⟩ => ⟨S2048x1x1, .i32⟩
  | .hbm, ⟨62, _⟩ => ⟨S2048x1x1, .i1⟩
  | .hbm, ⟨63, _⟩ => ⟨S2048x1x1, .i1⟩
  | .hbm, ⟨64, _⟩ => ⟨S_, .i1⟩
  | .hbm, ⟨65, _⟩ => ⟨S2048x1, .i1⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v20 : Ref sig .tc := ⟨.hbm, 46, rfl⟩
abbrev main_v21 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_cst_5 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩

abbrev nD : Nat := 1
abbrev τ : Topo := Topo.v7x

variable {F : FTy → Type} [FloatOps F]
-- ==== Proof.RefRun.lean ====
/-
  The run of the reference program. Its @main is a straight line of host operations (the three functions that it calls
  stand in their calls' places), cut here into six lines: the logits, the `argmax` of each row, the score, the
  `log_softmax` of each row, each row's entry at its label, and the mean. Each line's result is named as a function of
  the arrays it reads (`logits`, `nearest`, `score`, `logProbs`, `picked`, `loss`), and `run` states what the whole program
  leaves: the two results at those functions of the arguments, the arguments unchanged, every counter at zero.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The values, as functions of the arrays they read -/

/-- The squared norm of each row of the points, as a column over every centroid. -/
def pointNorms (x : (⟨S2048x1024, .f32⟩ : BufTy).Contents (Elt F)) : (⟨S2048x8192, .f32⟩ : BufTy).Contents (Elt F) :=
  broadcastInDim S2048x8192 ![0, 1] bcast_S2048x1_S2048x8192_0_1
    (broadcastInDim S2048x1 ![0] bcast_S2048_S2048x1_0
      (Host.reduceAdd (mulf x x) (constant S_ .f32 0x00000000#32) reducesTo_S2048x1024_S2048_d1 h_S_))

/-- The squared norm of each centroid, as a row over every point. -/
def centroidNorms (c : (⟨S8192x1024, .f32⟩ : BufTy).Contents (Elt F)) : (⟨S2048x8192, .f32⟩ : BufTy).Contents (Elt F) :=
  broadcastInDim S2048x8192 ![0, 1] bcast_S1x8192_S2048x8192_0_1
    (broadcastInDim S1x8192 ![1] bcast_S8192_S1x8192_1
      (Host.reduceAdd (mulf c c) (constant S_ .f32 0x00000000#32) reducesTo_S8192x1024_S8192_d1 h_S_))

/-- Twice the inner product of each point with each centroid. -/
def twiceProducts (x : (⟨S2048x1024, .f32⟩ : BufTy).Contents (Elt F)) (c : (⟨S8192x1024, .f32⟩ : BufTy).Contents (Elt F)) :
    (⟨S2048x8192, .f32⟩ : BufTy).Contents (Elt F) :=
  mulf (broadcastInDim S2048x8192 ![] bcast_S_S2048x8192 (constant S_ .f32 0x40000000#32))
    (Host.dotGeneral dot_S2048x1024_S1024x8192_S2048x8192_1_0_0_1_n_n none x
      (transpose S1024x8192 [1, 0] c transposes_S8192x1024_S1024x8192_1_0))

/-- The logits: the negated squared distance of each point to each centroid. -/
def logits (x : (⟨S2048x1024, .f32⟩ : BufTy).Contents (Elt F)) (c : (⟨S8192x1024, .f32⟩ : BufTy).Contents (Elt F)) :
    (⟨S2048x8192, .f32⟩ : BufTy).Contents (Elt F) :=
  Host.negf (subf (addf (pointNorms x) (centroidNorms c)) (twiceProducts x c))

/-- The index of the greatest entry of each row. -/
def nearest (L : (⟨S2048x8192, .f32⟩ : BufTy).Contents (Elt F)) : (⟨S2048, .i32⟩ : BufTy).Contents (Elt F) :=
  fun j => (Host.argReduce reducer_argmax_f32_i32 L (iotaInDim S2048x8192 32 1) (constant S_ .f32 0xFF800000#32)
    (constantI S_ 32 0#32) reducesTo_S2048x8192_S2048_d1 h_S_ j).2

/-- The share of rows whose index `d` is their label. -/
def score (d y : (⟨S2048, .i32⟩ : BufTy).Contents (Elt F)) : (⟨S_, .f32⟩ : BufTy).Contents (Elt F) :=
  Host.divf (Host.reduceAdd (uitofp .f32 (cmpi .eq d y)) (constant S_ .f32 0x00000000#32) reducesTo_S2048_S_d0 h_S_)
    (constant S_ .f32 0x45000000#32)

/-- Each row less its greatest entry. -/
def shifted (L : (⟨S2048x8192, .f32⟩ : BufTy).Contents (Elt F)) : (⟨S2048x8192, .f32⟩ : BufTy).Contents (Elt F) :=
  subf L (broadcastInDim S2048x8192 ![0, 1] bcast_S2048x1_S2048x8192_0_1
    (broadcastInDim S2048x1 ![0] bcast_S2048_S2048x1_0
      (maximumf (broadcastInDim S2048 ![] bcast_S_S2048 (constant S_ .f32 0xFF800000#32))
        (Host.reduce FloatOps.maximumf L (constant S_ .f32 0xFF800000#32) reducesTo_S2048x8192_S2048_d1 h_S_))))

/-- The logarithm of each row's sum of exponentials, as a column over every entry. -/
def logSums (s : (⟨S2048x8192, .f32⟩ : BufTy).Contents (Elt F)) : (⟨S2048x8192, .f32⟩ : BufTy).Contents (Elt F) :=
  broadcastInDim S2048x8192 ![0, 1] bcast_S2048x1_S2048x8192_0_1
    (Host.log (broadcastInDim S2048x1 ![0] bcast_S2048_S2048x1_0
      (Host.reduceAdd (Host.exp s) (constant S_ .f32 0x00000000#32) reducesTo_S2048x8192_S2048_d1 h_S_)))

/-- The logarithm of each row's softmax. -/
def logProbs (L : (⟨S2048x8192, .f32⟩ : BufTy).Contents (Elt F)) : (⟨S2048x8192, .f32⟩ : BufTy).Contents (Elt F) :=
  subf (shifted L) (logSums (shifted L))

/-- The labels as start indices: a negative one counted from the end. -/
def starts (y : (⟨S2048, .i32⟩ : BufTy).Contents (Elt F)) : (⟨S2048x1x1, .i32⟩ : BufTy).Contents (Elt F) :=
  shapeCast _ (select (cmpi .slt (broadcastInDim S2048x1 ![0] bcast_S2048_S2048x1_0 y)
        (broadcastInDim S2048x1 ![] bcast_S_S2048x1 (constantI S_ 32 0#32)))
      (addi (broadcastInDim S2048x1 ![0] bcast_S2048_S2048x1_0 y)
        (broadcastInDim S2048x1 ![] bcast_S_S2048x1 (constantI S_ 32 8192#32)))
      (broadcastInDim S2048x1 ![0] bcast_S2048_S2048x1_0 y)) shapeCasts_S2048x1_S2048x1x1

/-- Whether each start index lies in a row. -/
def inRange (i : (⟨S2048x1x1, .i32⟩ : BufTy).Contents (Elt F)) : (⟨S2048x1, .i1⟩ : BufTy).Contents (Elt F) :=
  Host.reduce IntOp.andi
    (andi (cmpi .sge i (broadcastInDim S2048x1x1 ![] bcast_S_S2048x1x1 (constantI S_ 32 0#32)))
      (cmpi .sle i (broadcastInDim S2048x1x1 ![0, 1, 2] bcast_S1x1x1_S2048x1x1_0_1_2
        (broadcastInDim S1x1x1 ![2] bcast_S1_S1x1x1_2 (constantI S1 32 8191#32)))))
    (constantI S_ 1 1#1) reducesTo_S2048x1x1_S2048x1_d2 h_S_

/-- Each row's entry at its label. -/
def picked (P : (⟨S2048x8192, .f32⟩ : BufTy).Contents (Elt F)) (y : (⟨S2048, .i32⟩ : BufTy).Contents (Elt F)) :
    (⟨S2048x1, .f32⟩ : BufTy).Contents (Elt F) :=
  select (inRange (starts y)) (Host.gather gather_S2048x8192_S2048x1x1_S2048x1_n_1_0_0_1_2_11 P (starts y))
    (broadcastInDim S2048x1 ![] bcast_S_S2048x1 (constant S_ .f32 0x7FC00000#32))

/-- The negated mean of the picked entries. -/
def loss (g : (⟨S2048x1, .f32⟩ : BufTy).Contents (Elt F)) : (⟨S_, .f32⟩ : BufTy).Contents (Elt F) :=
  Host.negf (Host.divf (Host.reduceAdd g (constant S_ .f32 0x00000000#32) reducesTo_S2048x1_S_d0_1 h_S_)
    (constant S_ .f32 0x45000000#32))

/-! ## The six lines of operations -/

/-- The squared distances, negated: the lines that compute the logits. -/
abbrev logitsOps : List (HloOp τ sig (Elt F)) :=
  [ binary main_arg0 main_arg0 main_v0 (mulf : (⟨S2048x1024, .f32⟩ : BufTy).Contents (Elt F) → (⟨S2048x1024, .f32⟩ : BufTy).Contents (Elt F) → (⟨S2048x1024, .f32⟩ : BufTy).Contents (Elt F)),
    nullary main_cst (constant S_ .f32 0x00000000#32),
    binary main_v0 main_cst main_v1 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v1 main_v2 (broadcastInDim S2048x1 ![0] bcast_S2048_S2048x1_0 : (⟨S2048, .f32⟩ : BufTy).Contents (Elt F) → (⟨S2048x1, .f32⟩ : BufTy).Contents (Elt F)),
    binary main_arg2 main_arg2 main_v3 (mulf : (⟨S8192x1024, .f32⟩ : BufTy).Contents (Elt F) → (⟨S8192x1024, .f32⟩ : BufTy).Contents (Elt F) → (⟨S8192x1024, .f32⟩ : BufTy).Contents (Elt F)),
    nullary main_cst_0 (constant S_ .f32 0x00000000#32),
    binary main_v3 main_cst_0 main_v4 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S2048x8192 ![0, 1] bcast_S2048x1_S2048x8192_0_1 : (⟨S2048x1, .f32⟩ : BufTy).Contents (Elt F) → (⟨S2048x8192, .f32⟩ : BufTy).Contents (Elt F)),
    unary main_v5 main_v7 (broadcastInDim S2048x8192 ![0, 1] bcast_S1x8192_S2048x8192_0_1 : (⟨S1x8192, .f32⟩ : BufTy).Contents (Elt F) → (⟨S2048x8192, .f32⟩ : BufTy).Contents (Elt F)),
    binary main_v6 main_v7 main_v8 (addf : (⟨S2048x8192, .f32⟩ : BufTy).Contents (Elt F) → (⟨S2048x8192, .f32⟩ : BufTy).Contents (Elt F) → (⟨S2048x8192, .f32⟩ : BufTy).Contents (Elt F)),
    unary main_arg2 main_v9 ((transpose S1024x8192 [1, 0] · transposes_S8192x1024_S1024x8192_1_0) : (⟨S8192x1024, .f32⟩ : BufTy).Contents (Elt F) → (⟨S1024x8192, .f32⟩ : BufTy).Contents (Elt F)),
    binary main_arg0 main_v9 main_v10 ((fun l r => Host.dotGeneral dot_S2048x1024_S1024x8192_S2048x8192_1_0_0_1_n_n none l r) : (⟨S2048x1024, .f32⟩ : BufTy).Contents (Elt F) → (⟨S1024x8192, .f32⟩ : BufTy).Contents (Elt F) → (⟨S2048x8192, .f32⟩ : BufTy).Contents (Elt F)),
    nullary main_cst_1 (constant S_ .f32 0x40000000#32),
    unary main_cst_1 main_v11 (broadcastInDim S2048x8192 ![] bcast_S_S2048x8192 : (⟨S_, .f32⟩ : BufTy).Contents (Elt F) → (⟨S2048x8192, .f32⟩ : BufTy).Contents (Elt F)),
    binary main_v11 main_v10 main_v12 (mulf : (⟨S2048x8192, .f32⟩ : BufTy).Contents (Elt F) → (⟨S2048x8192, .f32⟩ : BufTy).Contents (Elt F) → (⟨S2048x8192, .f32⟩ : BufTy).Contents (Elt F)),
    binary main_v8 main_v12 main_v13 (subf : (⟨S2048x8192, .f32⟩ : BufTy).Contents (Elt F) → (⟨S2048x8192, .f32⟩ : BufTy).Contents (Elt F) → (⟨S2048x8192, .f32⟩ : BufTy).Contents (Elt F)),
    unary main_v13 main_v14 (Host.negf : (⟨S2048x8192, .f32⟩ : BufTy).Contents (Elt F) → (⟨S2048x8192, .f32⟩ : BufTy).Contents (Elt F)) ]

/-- The lines of `argmax` over each row of logits. -/
abbrev argmaxOps : List (HloOp τ sig (Elt F)) :=
  [ TRef.nullary (TRef.of (T := ⟨S2048x8192, .i32⟩) main_call0_v0) (iotaInDim S2048x8192 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2048x8192, .f32⟩) main_v14) (TRef.of (T := ⟨S2048x8192, .i32⟩) main_call0_v0) (TRef.of (T := ⟨S_, .f32⟩) main_call0_cst) (TRef.of (T := ⟨S_, .i32⟩) main_call0_c) (TRef.of (T := ⟨S2048, .f32⟩) main_call0_v1_0)
      (fun x y u v j => (Host.argReduce reducer_argmax_f32_i32 x y u v reducesTo_S2048x8192_S2048_d1 h_S_ j).1),
    TRef.quaternary (TRef.of (T := ⟨S2048x8192, .f32⟩) main_v14) (TRef.of (T := ⟨S2048x8192, .i32⟩) main_call0_v0) (TRef.of (T := ⟨S_, .f32⟩) main_call0_cst) (TRef.of (T := ⟨S_, .i32⟩) main_call0_c) (TRef.of (T := ⟨S2048, .i32⟩) main_v15)
      (fun x y u v j => (Host.argReduce reducer_argmax_f32_i32 x y u v reducesTo_S2048x8192_S2048_d1 h_S_ j).2) ]

/-- The lines that compare the nearest centroid with the label and take the mean. -/
abbrev scoreOps : List (HloOp τ sig (Elt F)) :=
  [ binary main_v15 main_arg1 main_v16 (cmpi .eq : (⟨S2048, .i32⟩ : BufTy).Contents (Elt F) → (⟨S2048, .i32⟩ : BufTy).Contents (Elt F) → (⟨S2048, .i1⟩ : BufTy).Contents (Elt F)),
    unary main_v16 main_v17 (uitofp .f32 : (⟨S2048, .i1⟩ : BufTy).Contents (Elt F) → (⟨S2048, .f32⟩ : BufTy).Contents (Elt F)),
    nullary main_cst_2 (constant S_ .f32 0x00000000#32),
    binary main_v17 main_cst_2 main_v18 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_3 (constant S_ .f32 0x45000000#32),
    binary main_v18 main_cst_3 main_v19 (Host.divf : (⟨S_, .f32⟩ : BufTy).Contents (Elt F) → (⟨S_, .f32⟩ : BufTy).Contents (Elt F) → (⟨S_, .f32⟩ : BufTy).Contents (Elt F)) ]

/-- The lines of `log_softmax` over each row of logits. -/
abbrev softmaxOps : List (HloOp τ sig (Elt F)) :=
  [ TRef.nullary (TRef.of (T := ⟨S_, .f32⟩) main_call1_cst) (constant S_ .f32 0xFF800000#32),
    TRef.binary (TRef.of (T := ⟨S2048x8192, .f32⟩) main_v14) (TRef.of (T := ⟨S_, .f32⟩) main_call1_cst) (TRef.of (T := ⟨S2048, .f32⟩) main_call1_v0) (fun x v => Host.reduce FloatOps.maximumf x v reducesTo_S2048x8192_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x8192, .f32⟩) main_call1_v4) (broadcastInDim S2048x8192 ![0, 1] bcast_S2048x1_S2048x8192_0_1),
    TRef.binary (TRef.of (T := ⟨S2048x8192, .f32⟩) main_v14) (TRef.of (T := ⟨S2048x8192, .f32⟩) main_call1_v4) (TRef.of (T := ⟨S2048x8192, .f32⟩) main_call1_v5) subf,
    TRef.unary (TRef.of (T := ⟨S2048x8192, .f32⟩) main_call1_v5) (TRef.of (T := ⟨S2048x8192, .f32⟩) main_call1_v6) Host.exp,
    TRef.nullary (TRef.of (T := ⟨S_, .f32⟩) main_call1_cst_1) (constant S_ .f32 0x00000000#32),
    TRef.binary (TRef.of (T := ⟨S2048x8192, .f32⟩) main_call1_v6) (TRef.of (T := ⟨S_, .f32⟩) main_call1_cst_1) (TRef.of (T := ⟨S2048, .f32⟩) main_call1_v7) (fun x v => Host.reduceAdd x v reducesTo_S2048x8192_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x8192, .f32⟩) main_call1_v10) (broadcastInDim S2048x8192 ![0, 1] bcast_S2048x1_S2048x8192_0_1),
    TRef.binary (TRef.of (T := ⟨S2048x8192, .f32⟩) main_call1_v5) (TRef.of (T := ⟨S2048x8192, .f32⟩) main_call1_v10) (TRef.of (T := ⟨S2048x8192, .f32⟩) main_v20) subf ]

/-- The lines that pick each row's entry at its label (`take_along_axis`). -/
abbrev takeOps : List (HloOp τ sig (Elt F)) :=
  [ unary main_arg1 main_v21 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v21) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v21) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v21) (TRef.of (T := ⟨S2048x1, .i32⟩) main_call2_v4) select,
    TRef.reshape (TRef.of (T := ⟨S2048x1, .i32⟩) main_call2_v4) (TRef.of (T := ⟨S2048x1x1, .i32⟩) main_call2_v5) (rfl : (.i32 : EltTy) = .i32) shapeCasts_S2048x1_S2048x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x8192, .f32⟩) main_v20) (TRef.of (T := ⟨S2048x1x1, .i32⟩) main_call2_v5) (TRef.of (T := ⟨S2048x1, .f32⟩) main_call2_v13) (fun x i => Host.gather gather_S2048x8192_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v22) select ]

/-- The lines of the negated mean, and the two reshapes to one element. -/
abbrev meanOps : List (HloOp τ sig (Elt F)) :=
  [ nullary main_cst_4 (constant S_ .f32 0x00000000#32),
    binary main_v22 main_cst_4 main_v23 ((fun x v => Host.reduceAdd x v reducesTo_S2048x1_S_d0_1 h_S_) : (⟨S2048x1, .f32⟩ : BufTy).Contents (Elt F) → (⟨S_, .f32⟩ : BufTy).Contents (Elt F) → (⟨S_, .f32⟩ : BufTy).Contents (Elt F)),
    nullary main_cst_5 (constant S_ .f32 0x45000000#32),
    binary main_v23 main_cst_5 main_v24 (Host.divf : (⟨S_, .f32⟩ : BufTy).Contents (Elt F) → (⟨S_, .f32⟩ : BufTy).Contents (Elt F) → (⟨S_, .f32⟩ : BufTy).Contents (Elt F)),
    unary main_v24 main_v25 (Host.negf : (⟨S_, .f32⟩ : BufTy).Contents (Elt F) → (⟨S_, .f32⟩ : BufTy).Contents (Elt F)),
    reshape main_v25 main_v26 (rfl : (.f32 : EltTy) = .f32) shapeCasts_S_S1,
    reshape main_v19 main_v27 (rfl : (.f32 : EltTy) = .f32) shapeCasts_S_S1 ]

theorem logitsOps_sub : (logitsOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub ..⟩
theorem argmaxOps_sub : (argmaxOps : List (HloOp τ sig (Elt F))).Forall fun op => op.bufs ⊆ tcRefs τ sig :=
  ⟨nullary_bufs_sub .., nullary_bufs_sub .., nullary_bufs_sub .., quaternary_bufs_sub .., quaternary_bufs_sub ..⟩
theorem scoreOps_sub : (scoreOps : List (HloOp τ sig (Elt F))).Forall fun op => op.bufs ⊆ tcRefs τ sig :=
  ⟨binary_bufs_sub .., unary_bufs_sub .., nullary_bufs_sub .., binary_bufs_sub .., nullary_bufs_sub .., binary_bufs_sub ..⟩
theorem softmaxOps_sub : (softmaxOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem takeOps_sub : (takeOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem meanOps_sub : (meanOps : List (HloOp τ sig (Elt F))).Forall fun op => op.bufs ⊆ tcRefs τ sig :=
  ⟨nullary_bufs_sub .., binary_bufs_sub .., nullary_bufs_sub .., binary_bufs_sub .., unary_bufs_sub .., reshape_bufs_sub .., reshape_bufs_sub ..⟩

/-- @main's operations, in order. -/
abbrev ops : List (HloOp τ sig (Elt F)) :=
  logitsOps ++ (argmaxOps ++ (scoreOps ++ (softmaxOps ++ (takeOps ++ meanOps))))

set_option maxRecDepth 8192 in
set_option maxHeartbeats 4000000 in
/-- @main is that line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Two lines of operations that each touch TensorCore references only do so together. -/
theorem sub_append {a b : List (HloOp τ sig (Elt F))} (ha : a.Forall fun op => op.bufs ⊆ tcRefs τ sig)
    (hb : b.Forall fun op => op.bufs ⊆ tcRefs τ sig) : (a ++ b).Forall fun op => op.bufs ⊆ tcRefs τ sig := by
  rw [List.forall_iff_forall_mem] at *
  intro op h
  exact (List.mem_append.mp h).elim (ha op) (hb op)

/-- Every operation touches TensorCore references only. -/
theorem ops_sub : (ops : List (HloOp τ sig (Elt F))).Forall fun op => op.bufs ⊆ tcRefs τ sig :=
  sub_append logitsOps_sub (sub_append argmaxOps_sub (sub_append scoreOps_sub
    (sub_append softmaxOps_sub (sub_append takeOps_sub meanOps_sub))))

/-- Running one line and then another folds the second over what the first leaves. -/
theorem after_two (a b : List (HloOp τ sig (Elt F))) (V : Valuation τ sig (Elt F)) : after (a ++ b) V = after b (after a V) := by
  induction a generalizing V with
  | nil => rfl
  | cons op a ih => exact ih (op.result V)

/-! ## What each line leaves -/

variable (V : Valuation τ sig (Elt F))

/-- The first line leaves the logits; -/
theorem logits_at : after logitsOps V (main_v14 : DevRef τ sig) = logits (V (main_arg0 : DevRef τ sig)) (V (main_arg2 : DevRef τ sig)) := by
  simp only [logitsOps, TRef.binary, TRef.nullary, TRef.reshape, TRef.ternary, TRef.unary, TRef.quaternary, TRef.toBuf, TRef.ofBuf, cast_eq]; after_results_simp <;> rfl
/-- the second the index of each row's greatest entry; -/
theorem argmax_at : after argmaxOps V (main_v15 : DevRef τ sig) = nearest (V (main_v14 : DevRef τ sig)) := by
  simp only [argmaxOps, TRef.binary, TRef.nullary, TRef.reshape, TRef.ternary, TRef.unary, TRef.quaternary, TRef.toBuf, TRef.ofBuf, cast_eq]; after_results_simp <;> rfl
/-- the third the score; -/
theorem score_at : after scoreOps V (main_v19 : DevRef τ sig) = score (V (main_v15 : DevRef τ sig)) (V (main_arg1 : DevRef τ sig)) := by
  simp only [scoreOps, TRef.binary, TRef.nullary, TRef.reshape, TRef.ternary, TRef.unary, TRef.quaternary, TRef.toBuf, TRef.ofBuf, cast_eq]; after_results_simp <;> rfl
/-- the fourth the logarithm of the softmax; -/
theorem softmax_at : after softmaxOps V (main_v20 : DevRef τ sig) = logProbs (V (main_v14 : DevRef τ sig)) := by
  simp only [softmaxOps, TRef.binary, TRef.nullary, TRef.reshape, TRef.ternary, TRef.unary, TRef.quaternary, TRef.toBuf, TRef.ofBuf, cast_eq]; after_results_simp <;> rfl
/-- the fifth the entries at the labels; -/
theorem take_at : after takeOps V (main_v22 : DevRef τ sig) = picked (V (main_v20 : DevRef τ sig)) (V (main_arg1 : DevRef τ sig)) := by
  simp only [takeOps, TRef.binary, TRef.nullary, TRef.reshape, TRef.ternary, TRef.unary, TRef.quaternary, TRef.toBuf, TRef.ofBuf, cast_eq]; after_results_simp <;> rfl
/-- and the last the loss -/
theorem mean_at : after meanOps V (main_v26 : DevRef τ sig) = shapeCast _ (loss (V (main_v22 : DevRef τ sig))) shapeCasts_S_S1 := by
  simp only [meanOps, TRef.binary, TRef.nullary, TRef.reshape, TRef.ternary, TRef.unary, TRef.quaternary, TRef.toBuf, TRef.ofBuf, cast_eq]; after_results_simp <;> rfl
/-- and the score, each as one element. -/
theorem mean_score_at : after meanOps V (main_v27 : DevRef τ sig) = shapeCast _ (V (main_v19 : DevRef τ sig)) shapeCasts_S_S1 := by
  simp only [meanOps, TRef.binary, TRef.nullary, TRef.reshape, TRef.ternary, TRef.unary, TRef.quaternary, TRef.toBuf, TRef.ofBuf, cast_eq]; after_results_simp <;> rfl

/-! No line writes an argument, nor a value that a later line reads. -/

theorem logitsOps_arg0 : after logitsOps V (main_arg0 : DevRef τ sig) = (V (main_arg0 : DevRef τ sig)) := by
  simp only [logitsOps, TRef.binary, TRef.nullary, TRef.reshape, TRef.ternary, TRef.unary, TRef.quaternary, TRef.toBuf, TRef.ofBuf, cast_eq]; after_results_simp <;> rfl
theorem logitsOps_arg1 : after logitsOps V (main_arg1 : DevRef τ sig) = (V (main_arg1 : DevRef τ sig)) := by
  simp only [logitsOps, TRef.binary, TRef.nullary, TRef.reshape, TRef.ternary, TRef.unary, TRef.quaternary, TRef.toBuf, TRef.ofBuf, cast_eq]; after_results_simp <;> rfl
theorem logitsOps_arg2 : after logitsOps V (main_arg2 : DevRef τ sig) = (V (main_arg2 : DevRef τ sig)) := by
  simp only [logitsOps, TRef.binary, TRef.nullary, TRef.reshape, TRef.ternary, TRef.unary, TRef.quaternary, TRef.toBuf, TRef.ofBuf, cast_eq]; after_results_simp <;> rfl
theorem argmaxOps_arg0 : after argmaxOps V (main_arg0 : DevRef τ sig) = (V (main_arg0 : DevRef τ sig)) := by
  simp only [argmaxOps, TRef.binary, TRef.nullary, TRef.reshape, TRef.ternary, TRef.unary, TRef.quaternary, TRef.toBuf, TRef.ofBuf, cast_eq]; after_results_simp <;> rfl
theorem argmaxOps_arg1 : after argmaxOps V (main_arg1 : DevRef τ sig) = (V (main_arg1 : DevRef τ sig)) := by
  simp only [argmaxOps, TRef.binary, TRef.nullary, TRef.reshape, TRef.ternary, TRef.unary, TRef.quaternary, TRef.toBuf, TRef.ofBuf, cast_eq]; after_results_simp <;> rfl
theorem argmaxOps_arg2 : after argmaxOps V (main_arg2 : DevRef τ sig) = (V (main_arg2 : DevRef τ sig)) := by
  simp only [argmaxOps, TRef.binary, TRef.nullary, TRef.reshape, TRef.ternary, TRef.unary, TRef.quaternary, TRef.toBuf, TRef.ofBuf, cast_eq]; after_results_simp <;> rfl
theorem argmaxOps_v14 : after argmaxOps V (main_v14 : DevRef τ sig) = (V (main_v14 : DevRef τ sig)) := by
  simp only [argmaxOps, TRef.binary, TRef.nullary, TRef.reshape, TRef.ternary, TRef.unary, TRef.quaternary, TRef.toBuf, TRef.ofBuf, cast_eq]; after_results_simp <;> rfl
theorem scoreOps_arg0 : after scoreOps V (main_arg0 : DevRef τ sig) = (V (main_arg0 : DevRef τ sig)) := by
  simp only [scoreOps, TRef.binary, TRef.nullary, TRef.reshape, TRef.ternary, TRef.unary, TRef.quaternary, TRef.toBuf, TRef.ofBuf, cast_eq]; after_results_simp <;> rfl
theorem scoreOps_arg1 : after scoreOps V (main_arg1 : DevRef τ sig) = (V (main_arg1 : DevRef τ sig)) := by
  simp only [scoreOps, TRef.binary, TRef.nullary, TRef.reshape, TRef.ternary, TRef.unary, TRef.quaternary, TRef.toBuf, TRef.ofBuf, cast_eq]; after_results_simp <;> rfl
theorem scoreOps_arg2 : after scoreOps V (main_arg2 : DevRef τ sig) = (V (main_arg2 : DevRef τ sig)) := by
  simp only [scoreOps, TRef.binary, TRef.nullary, TRef.reshape, TRef.ternary, TRef.unary, TRef.quaternary, TRef.toBuf, TRef.ofBuf, cast_eq]; after_results_simp <;> rfl
theorem scoreOps_v14 : after scoreOps V (main_v14 : DevRef τ sig) = (V (main_v14 : DevRef τ sig)) := by
  simp only [scoreOps, TRef.binary, TRef.nullary, TRef.reshape, TRef.ternary, TRef.unary, TRef.quaternary, TRef.toBuf, TRef.ofBuf, cast_eq]; after_results_simp <;> rfl
theorem softmaxOps_arg0 : after softmaxOps V (main_arg0 : DevRef τ sig) = (V (main_arg0 : DevRef τ sig)) := by
  simp only [softmaxOps, TRef.binary, TRef.nullary, TRef.reshape, TRef.ternary, TRef.unary, TRef.quaternary, TRef.toBuf, TRef.ofBuf, cast_eq]; after_results_simp <;> rfl
theorem softmaxOps_arg1 : after softmaxOps V (main_arg1 : DevRef τ sig) = (V (main_arg1 : DevRef τ sig)) := by
  simp only [softmaxOps, TRef.binary, TRef.nullary, TRef.reshape, TRef.ternary, TRef.unary, TRef.quaternary, TRef.toBuf, TRef.ofBuf, cast_eq]; after_results_simp <;> rfl
theorem softmaxOps_arg2 : after softmaxOps V (main_arg2 : DevRef τ sig) = (V (main_arg2 : DevRef τ sig)) := by
  simp only [softmaxOps, TRef.binary, TRef.nullary, TRef.reshape, TRef.ternary, TRef.unary, TRef.quaternary, TRef.toBuf, TRef.ofBuf, cast_eq]; after_results_simp <;> rfl
theorem softmaxOps_v19 : after softmaxOps V (main_v19 : DevRef τ sig) = (V (main_v19 : DevRef τ sig)) := by
  simp only [softmaxOps, TRef.binary, TRef.nullary, TRef.reshape, TRef.ternary, TRef.unary, TRef.quaternary, TRef.toBuf, TRef.ofBuf, cast_eq]; after_results_simp <;> rfl
theorem takeOps_arg0 : after takeOps V (main_arg0 : DevRef τ sig) = (V (main_arg0 : DevRef τ sig)) := by
  simp only [takeOps, TRef.binary, TRef.nullary, TRef.reshape, TRef.ternary, TRef.unary, TRef.quaternary, TRef.toBuf, TRef.ofBuf, cast_eq]; after_results_simp <;> rfl
theorem takeOps_arg1 : after takeOps V (main_arg1 : DevRef τ sig) = (V (main_arg1 : DevRef τ sig)) := by
  simp only [takeOps, TRef.binary, TRef.nullary, TRef.reshape, TRef.ternary, TRef.unary, TRef.quaternary, TRef.toBuf, TRef.ofBuf, cast_eq]; after_results_simp <;> rfl
theorem takeOps_arg2 : after takeOps V (main_arg2 : DevRef τ sig) = (V (main_arg2 : DevRef τ sig)) := by
  simp only [takeOps, TRef.binary, TRef.nullary, TRef.reshape, TRef.ternary, TRef.unary, TRef.quaternary, TRef.toBuf, TRef.ofBuf, cast_eq]; after_results_simp <;> rfl
theorem takeOps_v19 : after takeOps V (main_v19 : DevRef τ sig) = (V (main_v19 : DevRef τ sig)) := by
  simp only [takeOps, TRef.binary, TRef.nullary, TRef.reshape, TRef.ternary, TRef.unary, TRef.quaternary, TRef.toBuf, TRef.ofBuf, cast_eq]; after_results_simp <;> rfl
theorem meanOps_arg0 : after meanOps V (main_arg0 : DevRef τ sig) = (V (main_arg0 : DevRef τ sig)) := by
  simp only [meanOps, TRef.binary, TRef.nullary, TRef.reshape, TRef.ternary, TRef.unary, TRef.quaternary, TRef.toBuf, TRef.ofBuf, cast_eq]; after_results_simp <;> rfl
theorem meanOps_arg1 : after meanOps V (main_arg1 : DevRef τ sig) = (V (main_arg1 : DevRef τ sig)) := by
  simp only [meanOps, TRef.binary, TRef.nullary, TRef.reshape, TRef.ternary, TRef.unary, TRef.quaternary, TRef.toBuf, TRef.ofBuf, cast_eq]; after_results_simp <;> rfl
theorem meanOps_arg2 : after meanOps V (main_arg2 : DevRef τ sig) = (V (main_arg2 : DevRef τ sig)) := by
  simp only [meanOps, TRef.binary, TRef.nullary, TRef.reshape, TRef.ternary, TRef.unary, TRef.quaternary, TRef.toBuf, TRef.ofBuf, cast_eq]; after_results_simp <;> rfl

/-! ## The whole program -/

/-- The loss of the arguments, as one element. -/
def lossOf (x : (⟨S2048x1024, .f32⟩ : BufTy).Contents (Elt F)) (y : (⟨S2048, .i32⟩ : BufTy).Contents (Elt F))
    (c : (⟨S8192x1024, .f32⟩ : BufTy).Contents (Elt F)) : (⟨S1, .f32⟩ : BufTy).Contents (Elt F) :=
  shapeCast _ (loss (picked (logProbs (logits x c)) y)) shapeCasts_S_S1

/-- The score of the arguments, as one element. -/
def scoreOf (x : (⟨S2048x1024, .f32⟩ : BufTy).Contents (Elt F)) (y : (⟨S2048, .i32⟩ : BufTy).Contents (Elt F))
    (c : (⟨S8192x1024, .f32⟩ : BufTy).Contents (Elt F)) : (⟨S1, .f32⟩ : BufTy).Contents (Elt F) :=
  shapeCast _ (score (nearest (logits x c)) y) shapeCasts_S_S1

/-- The fold of all the operations, at the first result. -/
theorem out0_eq : after ops V (main_v26 : DevRef τ sig) = lossOf (V (main_arg0 : DevRef τ sig)) (V (main_arg1 : DevRef τ sig)) (V (main_arg2 : DevRef τ sig)) := by
  rw [after_two, after_two, after_two, after_two, after_two, mean_at, take_at, softmax_at, scoreOps_v14, argmaxOps_v14, logits_at,
    softmaxOps_arg1, scoreOps_arg1, argmaxOps_arg1, logitsOps_arg1]
  rfl

/-- The fold of all the operations, at the second result. -/
theorem out1_eq : after ops V (main_v27 : DevRef τ sig) = scoreOf (V (main_arg0 : DevRef τ sig)) (V (main_arg1 : DevRef τ sig)) (V (main_arg2 : DevRef τ sig)) := by
  rw [after_two, after_two, after_two, after_two, after_two, mean_score_at, takeOps_v19, softmaxOps_v19, score_at, argmax_at, logits_at,
    argmaxOps_arg1, logitsOps_arg1]
  rfl

/-- No operation writes an argument. -/
theorem arg0_eq : after ops V (main_arg0 : DevRef τ sig) = (V (main_arg0 : DevRef τ sig)) := by
  rw [after_two, after_two, after_two, after_two, after_two, meanOps_arg0, takeOps_arg0, softmaxOps_arg0, scoreOps_arg0, argmaxOps_arg0, logitsOps_arg0]
theorem arg1_eq : after ops V (main_arg1 : DevRef τ sig) = (V (main_arg1 : DevRef τ sig)) := by
  rw [after_two, after_two, after_two, after_two, after_two, meanOps_arg1, takeOps_arg1, softmaxOps_arg1, scoreOps_arg1, argmaxOps_arg1, logitsOps_arg1]
theorem arg2_eq : after ops V (main_arg2 : DevRef τ sig) = (V (main_arg2 : DevRef τ sig)) := by
  rw [after_two, after_two, after_two, after_two, after_two, meanOps_arg2, takeOps_arg2, softmaxOps_arg2, scoreOps_arg2, argmaxOps_arg2, logitsOps_arg2]

/-- For any float values, from any memory with zero counters: every weakly fair execution of the reference's @main
    terminates, with its results at `lossOf` and `scoreOf` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = lossOf (m ((c.tc : Thread nD τ).loc main_arg0))
          (m ((c.tc : Thread nD τ).loc main_arg1)) (m ((c.tc : Thread nD τ).loc main_arg2))
      ∧ r.2.mem ((c.tc : Thread nD τ).loc main_v27) = scoreOf (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v26).trans (out0_eq _), (h c main_v27).trans (out1_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.RefRun

end
-- ==== Proof.Frames.lean ====
/-
  The claims that say nothing of values: each program runs to its end with its arguments unchanged and every semaphore
  counter at zero, and the idealized kernel differs from the printed one by named constants only.
-/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

/-- The printed kernel runs and leaves its arguments as they were. -/
theorem frame_kernel : Cert.quiescent_Kernel := fun m g _ => Cert.Kernel.Gen.frame m g

/-- So does the idealized kernel. -/
theorem frame_kernelIdeal : Cert.quiescent_KernelIdeal := fun m g _ => Cert.KernelIdeal.Gen.frame m g

/-- So does the reference, from any memory: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2.2, sem_eq_zero_of_no_sems (by decide) r.2⟩)
    (RefRun.run m g)

theorem frame_referenceIdeal : Cert.quiescent_ReferenceIdeal := fun m g _ => reference_frame m g

/-- Each named constant stands where the printed program has that constant's nearest number. -/
theorem preserves : Cert.preserves_Kernel_KernelIdeal :=
  ⟨IdealRules.named_const.statement Cert.KernelIdeal.κ "two_inv_ln2" .f32 0x4038AA3B#32 _ rfl,
    IdealRules.named_const.statement Cert.KernelIdeal.κ "inv_ln2" .f32 0x3FB8AA3B#32 _ rfl,
    IdealRules.named_const.statement Cert.KernelIdeal.κ "ln2" .f32 0x3F317218#32 _ rfl⟩

end Cert.Proof

end
-- ==== Proof.Steps.lean ====
/-
  One grid point of the kernel, read as a step on the three running rows. The kernel keeps, between points, the scaled
  points (transposed), and for each point of the batch a running maximum, a running sum of powers of two and the running
  label term, each held as eight equal rows. A grid point takes two chunks of 1024 centroids one after the other; `stepMax`,
  `stepSum` and `stepTerm` are what one chunk does to the three, and the theorems below read what the three hold after each
  grid point as two of these steps.
-/
module

public import proofs.«01_k».proof.Proof.Gen.KernelIdeal.Value
public import Idealize.ShloMosaic.Lib.Pipeline.Value
public import Idealize.ShloMosaic.Lib.Tactic

@[expose] public section

noncomputable section

namespace Cert.Proof.Steps

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The running maximum after a chunk: centroids `C`, scaled points `X`, maximum so far `M`. -/
def stepMax (C : Vec F S1024x1024 .f32) (X : Vec F S1024x2048 .f32) (M : Vec F S8x2048 .f32) : Vec F S8x2048 .f32 :=
  k0_pay18 (k0_pay15 C X M)

/-- The running sum of powers of two after a chunk, scaled to the new maximum. -/
def stepSum (C : Vec F S1024x1024 .f32) (X : Vec F S1024x2048 .f32) (M L : Vec F S8x2048 .f32) : Vec F S8x2048 .f32 :=
  k0_pay19 (k0_pay16 C X M L)

/-- The running label term after a chunk whose first centroid has number `o`. -/
def stepTerm (o : BitVec 32) (C : Vec F S1024x1024 .f32) (X : Vec F S1024x2048 .f32) (y : Vec F S1x1x2048 .i32)
    (T : Vec F S8x2048 .f32) : Vec F S8x2048 .f32 :=
  k0_pay27 o (k0_pay21 C X) y T

/-- The number of the first centroid of grid point `i`'s first chunk. -/
def base (i : grid0.Coords) : BitVec 32 := Scalar.muli (BitVec.ofNat 32 (i 0).val) 2048#32

theorem off2 : (![0, 0] : Fin 2 → Nat) = fun _ => 0 := funext fun a => by fin_cases a <;> rfl
theorem off3 : (![0, 0, 0] : Fin 3 → Nat) = fun _ => 0 := funext fun a => by fin_cases a <;> rfl
theorem off1 : (![0] : Fin 1 → Nat) = fun _ => 0 := funext fun a => by fin_cases a; rfl

/-- A load of a whole array after any stores reads what the stores leave. -/
theorem readCov_all {S : Shape} {e : EltTy} {sig : RefSig} {κ : Kind} {sp : Space} (v : View sig κ sp S e)
    (L : List (View.Piece (Elt F) S e)) {off : Fin S.rank → Nat} (h : off = fun _ => 0) (inb : ∀ a, off a + S.size a ≤ S.size a) :
    v.readCov L (Rect.unit off S.size inb).toLoadRect = View.canon L := by
  rw [View.readCov_eq_canon']
  exact View.ld_unit_zero h inb (View.canon L)

theorem prev_lt (t : Fin cfg0.N) : t.val - 1 < cfg0.N := Nat.lt_of_le_of_lt (Nat.sub_le _ _) t.isLt

/-- The second chunk's stores are the first chunk's steps: the same operations, cut at other places. -/
theorem pay25_eq (C : Vec F S1024x1024 .f32) (X : Vec F S1024x2048 .f32) (M : Vec F S8x2048 .f32) :
    k0_pay25 (k0_pay22 C X) M = stepMax C X M := rfl

theorem pay26_eq (C : Vec F S1024x1024 .f32) (X : Vec F S1024x2048 .f32) (M L : Vec F S8x2048 .f32) :
    k0_pay26 (k0_pay21 C X) (k0_pay22 C X) M L = stepSum C X M L := rfl

theorem pay20_eq (i : grid0.Coords) (C : Vec F S1024x1024 .f32) (X : Vec F S1024x2048 .f32) (y : Vec F S1x1x2048 .i32)
    (T : Vec F S8x2048 .f32) :
    k0_pay20 (k0_pay13 C X) (iota .tc S1024x2048 32 [0] iota_S1024x2048_d0_w32) (k0_pay17 i y) T = stepTerm (base i) C X y T :=
  (shapeCast_self (s := S8x2048) _ _).trans rfl

theorem pay27_eq (i : grid0.Coords) (C : Vec F S1024x1024 .f32) (X : Vec F S1024x2048 .f32) (y : Vec F S1x1x2048 .i32)
    (T : Vec F S8x2048 .f32) :
    k0_pay1 (k0_pay27 (Scalar.addi (Scalar.muli (BitVec.ofNat 32 (i 0).val) 2048#32) 1024#32) (k0_pay21 C X) y T)
      = stepTerm (Scalar.addi (base i) 1024#32) C X y T :=
  (shapeCast_self (s := S8x2048) _ _).trans rfl

/-- What the scratch holds after a point: scaled points, running maximum, running sum, running label term. -/
abbrev held (c : Dev nD) (n : ℕ) (h : n < cfg0.N) :
    Vec F S1024x2048 .f32 × Vec F S8x2048 .f32 × Vec F S8x2048 .f32 × Vec F S8x2048 .f32 := (outsAt0 m c n h).2.2

/-- Two chunks, with centroids `C` and then `D`, on the four things held. -/
def twoChunks (o : BitVec 32) (C D : Vec F S1024x1024 .f32) (y : Vec F S1x1x2048 .i32)
    (p : Vec F S1024x2048 .f32 × Vec F S8x2048 .f32 × Vec F S8x2048 .f32 × Vec F S8x2048 .f32) :
    Vec F S1024x2048 .f32 × Vec F S8x2048 .f32 × Vec F S8x2048 .f32 × Vec F S8x2048 .f32 :=
  (p.1, stepMax D p.1 (stepMax C p.1 p.2.1), stepSum D p.1 (stepMax C p.1 p.2.1) (stepSum C p.1 p.2.1 p.2.2.1),
    stepTerm (Scalar.addi o 1024#32) D p.1 y (stepTerm o C p.1 y p.2.2.2))

/-- The last stores of a grid point, over what was held before, are its two chunks. -/
theorem stores_eq (i : grid0.Coords) (C D : Vec F S1024x1024 .f32) (y : Vec F S1x1x2048 .i32) (X : Vec F S1024x2048 .f32)
    (M L T : Vec F S8x2048 .f32) :
    (X, k0_pay25 (k0_pay22 D X) (k0_pay18 (k0_pay15 C X M)),
      k0_pay26 (k0_pay21 D X) (k0_pay22 D X) (k0_pay18 (k0_pay15 C X M)) (k0_pay19 (k0_pay16 C X M L)),
      k0_pay1 (k0_pay27 (Scalar.addi (Scalar.muli (BitVec.ofNat 32 (i 0).val) 2048#32) 1024#32) (k0_pay21 D X) y
        (k0_pay20 (k0_pay13 C X) (iota .tc S1024x2048 32 [0] iota_S1024x2048_d0_w32) (k0_pay17 i y) T)))
      = twoChunks (base i) C D y (X, M, L, T) := by
  rw [pay20_eq, pay27_eq]
  rfl

set_option maxHeartbeats 800000 in
/-- A middle point takes what is held through its two chunks. -/
theorem held_B (c : Dev nD) (t : Fin cfg0.N) (h0 : ¬t.val % 4 = 0) (h1 : ¬t.val % 4 = 3) :
    held m c t.val t.isLt = twoChunks (base (grid0.coords t)) (iblk m c 4 t) (iblk m c 5 t) (iblk m c 6 t)
      (held m c (t.val - 1) (prev_lt t)) := by
  unfold held
  show (outsAt0 m c t.val t.isLt).2.2 = _
  rw [outsAt0_B m c t h0 h1]
  generalize outsAt0 m c (t.val - 1) (prev_lt t) = p
  dsimp only
  unfold sout0_B_0 sout0_B_1 sout0_B_2 sout0_B_3
  rw [View.read_writes_eq_canon _ _ _ (fun y => scover0_B_1 (y := y) ..), View.read_writes_eq_canon _ _ _ (fun y => scover0_B_2 (y := y) ..),
    View.read_writes_eq_canon _ _ _ (fun y => scover0_B_3 (y := y) ..)]
  unfold kernelRun0_B
  dsimp only
  sl_unfold_words
  simp only [View.readAt_eq_ld, (hs0_4 t).read_unread, (hs0_5 t).read_unread, (hs0_6 t).read_unread, (Memref.isWhole_whole _).read_unread,
    View.ld_unit_zero (S := S1024x1024) off2, View.ld_unit_zero (S := S1024x2048) off2, View.ld_unit_zero (S := S8x2048) off2,
    View.ld_unit_zero (S := S1x1x2048) off3, View.canon_cons_unit_zero (S := S8x2048) off2, readCov_all (S := S8x2048) _ _ off2]
  exact stores_eq ..

set_option maxHeartbeats 800000 in
/-- The last point takes what is held through its two chunks too. -/
theorem held_C (c : Dev nD) (t : Fin cfg0.N) (h0 : ¬t.val % 4 = 0) (h1 : t.val % 4 = 3) :
    held m c t.val t.isLt = twoChunks (base (grid0.coords t)) (iblk m c 4 t) (iblk m c 5 t) (iblk m c 6 t)
      (held m c (t.val - 1) (prev_lt t)) := by
  unfold held
  show (outsAt0 m c t.val t.isLt).2.2 = _
  rw [outsAt0_C m c t h0 h1]
  generalize outsAt0 m c (t.val - 1) (prev_lt t) = p
  dsimp only
  unfold sout0_C_0 sout0_C_1 sout0_C_2 sout0_C_3
  rw [View.read_writes_eq_canon _ _ _ (fun y => scover0_C_1 (y := y) ..), View.read_writes_eq_canon _ _ _ (fun y => scover0_C_2 (y := y) ..),
    View.read_writes_eq_canon _ _ _ (fun y => scover0_C_3 (y := y) ..)]
  unfold kernelRun0_C
  dsimp only
  sl_unfold_words
  simp only [View.readAt_eq_ld, (hs0_4 t).read_unread, (hs0_5 t).read_unread, (hs0_6 t).read_unread, (Memref.isWhole_whole _).read_unread,
    View.ld_unit_zero (S := S1024x1024) off2, View.ld_unit_zero (S := S1024x2048) off2, View.ld_unit_zero (S := S8x2048) off2,
    View.ld_unit_zero (S := S1x1x2048) off3, View.canon_cons_unit_zero (S := S8x2048) off2, readCov_all (S := S8x2048) _ _ off2]
  exact stores_eq ..

set_option maxHeartbeats 800000 in
/-- The last point leaves the two results of what it holds: the loss and the score. -/
theorem results_C (c : Dev nD) (t : Fin cfg0.N) (h0 : ¬t.val % 4 = 0) (h1 : t.val % 4 = 3) :
    (outsAt0 m c t.val t.isLt).1 = (fun _ => k0_pay4 (held m c t.val t.isLt).2.1 (held m c t.val t.isLt).2.2.1 (held m c t.val t.isLt).2.2.2)
      ∧ (outsAt0 m c t.val t.isLt).2.1 = (fun _ => k0_pay5 (held m c t.val t.isLt).2.1 (held m c t.val t.isLt).2.2.2) := by
  rw [held_C m c t h0 h1]
  unfold held
  rw [outsAt0_C m c t h0 h1]
  generalize outsAt0 m c (t.val - 1) (prev_lt t) = p
  dsimp only
  unfold out0_C_7 out0_C_8
  rw [View.read_writes_eq_canon _ _ _ (fun y => cover0_C_7 (y := y) ..), View.read_writes_eq_canon _ _ _ (fun y => cover0_C_8 (y := y) ..)]
  unfold kernelRun0_C
  dsimp only
  sl_unfold_words
  simp only [View.readAt_eq_ld, (hs0_4 t).read_unread, (hs0_5 t).read_unread, (hs0_6 t).read_unread, (Memref.isWhole_whole _).read_unread,
    View.ld_unit_zero (S := S1024x1024) off2, View.ld_unit_zero (S := S1024x2048) off2, View.ld_unit_zero (S := S8x2048) off2,
    View.ld_unit_zero (S := S1x1x2048) off3, View.canon_cons_unit_zero (S := S8x2048) off2, readCov_all (S := S8x2048) _ _ off2,
    View.canon_cons_unit_zero (S := S1) off1]
  rw [← stores_eq]
  exact ⟨rfl, rfl⟩

/-- The scaled points as the first grid point stores them: four strips of 256 rows, one for each quarter of the columns. -/
def strips (x0 x1 x2 x3 : Vec F S2048x256 .f32) : List (View.Piece (Elt F) S1024x2048 .f32) :=
  [⟨Rect.unit ![768, 0] ![256, 2048] inb_S1024x2048_S256x2048_768_0, k0_pay9 x3⟩,
   ⟨Rect.unit ![512, 0] ![256, 2048] inb_S1024x2048_S256x2048_512_0, k0_pay8 x2⟩,
   ⟨Rect.unit ![256, 0] ![256, 2048] inb_S1024x2048_S256x2048_256_0, k0_pay7 x1⟩,
   ⟨Rect.unit ![0, 0] ![256, 2048] inb_S1024x2048_S256x2048_0_0, k0_pay6 x0⟩]

set_option maxHeartbeats 800000 in
/-- The first point fills the scaled points, resets the other three and takes them through its two chunks. -/
theorem held_A (c : Dev nD) (t : Fin cfg0.N) (h0 : t.val % 4 = 0) (h1 : ¬t.val % 4 = 3) :
    held m c t.val t.isLt = twoChunks (base (grid0.coords t)) (iblk m c 4 t) (iblk m c 5 t) (iblk m c 6 t)
      (View.canon (strips (iblk m c 0 t) (iblk m c 1 t) (iblk m c 2 t) (iblk m c 3 t)), k0_pay10, k0_pay11, k0_pay12) := by
  show (outsAt0 m c t.val t.isLt).2.2 = _
  rw [outsAt0_A m c t h0 h1]
  dsimp only
  unfold sout0_A_0 sout0_A_1 sout0_A_2 sout0_A_3
  rw [View.read_writes_eq_canon _ _ _ (fun y => scover0_A_0 (y := y) ..), View.read_writes_eq_canon _ _ _ (fun y => scover0_A_1 (y := y) ..),
    View.read_writes_eq_canon _ _ _ (fun y => scover0_A_2 (y := y) ..), View.read_writes_eq_canon _ _ _ (fun y => scover0_A_3 (y := y) ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (Memref.isWhole_whole _).read_unread,
    View.ld_unit_zero (S := S1024x1024) off2, View.ld_unit_zero (S := S1024x2048) off2, View.ld_unit_zero (S := S8x2048) off2,
    View.ld_unit_zero (S := S2048x256) off2, readCov_all (S := S1024x2048) _ _ off2,
    View.ld_unit_zero (S := S1x1x2048) off3, View.canon_cons_unit_zero (S := S8x2048) off2, readCov_all (S := S8x2048) _ _ off2]
  exact stores_eq ..

end Cert.Proof.Steps

end
-- ==== Proof.Consts.lean ====
/-
  The numbers that the two programs print as bit patterns, and the named constants of the kernel, as extended reals.
-/
module

public import proofs.«01_k».proof.Defs
public import Idealize.ShloMosaic.PureOps.Ideal

@[expose] public section

noncomputable section

namespace Cert.Proof.Consts

open Idealize.ShloMosaic

/-- `-∞`, where the maxima start. -/
theorem neg_inf : Ideal.ofBits .f32 0xFF800000#32 = (⊥ : EReal) := by
  simp [Ideal.ofBits, Ideal.ieee]

/-- `+∞`, the bound of the finiteness tests. -/
theorem pos_inf : Ideal.ofBits .f32 0x7F800000#32 = (⊤ : EReal) := by
  simp [Ideal.ofBits, Ideal.ieee]

/-- `2`. -/
theorem two : Ideal.ofBits .f32 0x40000000#32 = ((2 : ℝ) : EReal) := by
  simp [Ideal.ofBits, Ideal.ieee, -EReal.coe_mul]; norm_num

/-- `2048`, the size of the batch. -/
theorem size : Ideal.ofBits .f32 0x45000000#32 = ((2048 : ℝ) : EReal) := by
  simp [Ideal.ofBits, Ideal.ieee, -EReal.coe_mul]; norm_num

/-- `1 / 2048`. -/
theorem inv_size : Ideal.ofBits .f32 973078528#32 = ((1 / 2048 : ℝ) : EReal) := by
  simp [Ideal.ofBits, Ideal.ieee, -EReal.coe_mul]; norm_num

/-- `1 / ln 2`. -/
theorem inv_ln2 : Named.named (F := Ideal) (φ := .f32) Cert.KernelIdeal.κ "inv_ln2" 1069066811#32 = (((Real.log 2)⁻¹ : ℝ) : EReal) :=
  IdealRules.named_const.ideal_named_scalar _ _ _ _ rfl

/-- `ln 2`. -/
theorem ln2 : Named.named (F := Ideal) (φ := .f32) Cert.KernelIdeal.κ "ln2" 1060205080#32 = ((Real.log 2 : ℝ) : EReal) :=
  IdealRules.named_const.ideal_named_scalar _ _ _ _ rfl

/-- `2 / ln 2`. -/
theorem two_inv_ln2 :
    Named.named (F := Ideal) (φ := .f32) Cert.KernelIdeal.κ "two_inv_ln2" 1077455419#32 = ((2 * (Real.log 2)⁻¹ : ℝ) : EReal) :=
  IdealRules.named_const.ideal_named_scalar _ _ _ _ rfl

end Cert.Proof.Consts

end
-- ==== Proof.Blocks.lean ====
/-
  What the windows of the kernel hold, in terms of the argument arrays: four quarters of the points, two row blocks of the
  centroids, the labels; and the scaled, transposed points that the first grid point stores out of the four quarters.
-/
module

public import proofs.«01_k».proof.Proof.Steps
public import proofs.«01_k».proof.Proof.Consts
public import Idealize.ShloMosaic.Lib.Pointwise
public import Idealize.ShloMosaic.Lib.StableHlo.Run

@[expose] public section

set_option maxRecDepth 16384

noncomputable section

namespace Cert.Proof.Blocks

open Cert.KernelIdeal Cert.KernelIdeal.Gen Idealize.ShloMosaic Idealize.ShloMosaic.TcCoe Idealize.SL.Sem Cert.Proof.Steps

variable (m : (ℓ : Loc nD τ sig) → Buf (Elt Ideal) ℓ)

/-- The points, the labels and the centroids that device `c` is given. -/
abbrev pts (c : Dev nD) : FVec Ideal S2048x1024 .f32 := m ((c : Thread nD τ).loc main_arg0)
abbrev lbl (c : Dev nD) : IVec S2048 32 := m ((c : Thread nD τ).loc main_arg1)
abbrev cen (c : Dev nD) : FVec Ideal S8192x1024 .f32 := m ((c : Thread nD τ).loc main_arg2)

/-- Where the windows stand: the quarters of the columns, the two row blocks of a grid point. -/
theorem index_pts (t : Fin cfg0.N) : (win0_0.index t 0 = 0 ∧ win0_0.index t 1 = 0) ∧ (win0_1.index t 0 = 0 ∧ win0_1.index t 1 = 1)
    ∧ (win0_2.index t 0 = 0 ∧ win0_2.index t 1 = 2) ∧ (win0_3.index t 0 = 0 ∧ win0_3.index t 1 = 3) := by
  rcases fin_N0 t with rfl | rfl | rfl | rfl <;> decide +kernel

theorem index_cen (t : Fin cfg0.N) : (win0_4.index t 0 = 2 * t.val ∧ win0_4.index t 1 = 0)
    ∧ (win0_5.index t 0 = 2 * t.val + 1 ∧ win0_5.index t 1 = 0) := by
  rcases fin_N0 t with rfl | rfl | rfl | rfl <;> decide +kernel

theorem index_lbl (t : Fin cfg0.N) : win0_6.index t 0 = 0 ∧ win0_6.index t 1 = 0 ∧ win0_6.index t 2 = 0 := by
  rcases fin_N0 t with rfl | rfl | rfl | rfl <;> decide +kernel

theorem lt_N (t : Fin cfg0.N) : t.val < 4 := lt_of_lt_of_eq t.isLt (show cfg0.N = 4 from N_0)

/-- The first quarter of the columns. -/
theorem pts_0 (c : Dev nD) (t : Fin cfg0.N) (b : Fin 2048) (k : Fin 256) :
    iblk m c 0 t (ix2 b k) = pts m c (ix2 b ⟨0 + k.val, by omega⟩) := by
  have hi := (index_pts t).1
  unfold iblk
  rw [View.read_apply]
  show V m c main_arg0 _ = _
  rw [V_main_arg0]
  refine congrArg (pts m c) (funext fun a => Fin.ext ?_)
  match a with
  | ⟨0, _⟩ => show win0_0.index t 0 * 2048 + 1 * b.val = b.val; rw [hi.1]; omega
  | ⟨1, _⟩ => show win0_0.index t 1 * 256 + 1 * k.val = 0 + k.val; rw [hi.2]; omega

/-- The second. -/
theorem pts_1 (c : Dev nD) (t : Fin cfg0.N) (b : Fin 2048) (k : Fin 256) :
    iblk m c 1 t (ix2 b k) = pts m c (ix2 b ⟨256 + k.val, by omega⟩) := by
  have hi := (index_pts t).2.1
  unfold iblk
  rw [View.read_apply]
  show V m c main_arg0 _ = _
  rw [V_main_arg0]
  refine congrArg (pts m c) (funext fun a => Fin.ext ?_)
  match a with
  | ⟨0, _⟩ => show win0_1.index t 0 * 2048 + 1 * b.val = b.val; rw [hi.1]; omega
  | ⟨1, _⟩ => show win0_1.index t 1 * 256 + 1 * k.val = 256 + k.val; rw [hi.2]; omega

/-- The third. -/
theorem pts_2 (c : Dev nD) (t : Fin cfg0.N) (b : Fin 2048) (k : Fin 256) :
    iblk m c 2 t (ix2 b k) = pts m c (ix2 b ⟨512 + k.val, by omega⟩) := by
  have hi := (index_pts t).2.2.1
  unfold iblk
  rw [View.read_apply]
  show V m c main_arg0 _ = _
  rw [V_main_arg0]
  refine congrArg (pts m c) (funext fun a => Fin.ext ?_)
  match a with
  | ⟨0, _⟩ => show win0_2.index t 0 * 2048 + 1 * b.val = b.val; rw [hi.1]; omega
  | ⟨1, _⟩ => show win0_2.index t 1 * 256 + 1 * k.val = 512 + k.val; rw [hi.2]; omega

/-- The fourth. -/
theorem pts_3 (c : Dev nD) (t : Fin cfg0.N) (b : Fin 2048) (k : Fin 256) :
    iblk m c 3 t (ix2 b k) = pts m c (ix2 b ⟨768 + k.val, by omega⟩) := by
  have hi := (index_pts t).2.2.2
  unfold iblk
  rw [View.read_apply]
  show V m c main_arg0 _ = _
  rw [V_main_arg0]
  refine congrArg (pts m c) (funext fun a => Fin.ext ?_)
  match a with
  | ⟨0, _⟩ => show win0_3.index t 0 * 2048 + 1 * b.val = b.val; rw [hi.1]; omega
  | ⟨1, _⟩ => show win0_3.index t 1 * 256 + 1 * k.val = 768 + k.val; rw [hi.2]; omega

/-- The first row block of a grid point. -/
theorem cen_0 (c : Dev nD) (t : Fin cfg0.N) (r k : Fin 1024) :
    iblk m c 4 t (ix2 r k) = cen m c (ix2 ⟨2048 * t.val + r.val, by have := lt_N t; omega⟩ k) := by
  have hi := (index_cen t).1
  unfold iblk
  rw [View.read_apply]
  show V m c main_arg2 _ = _
  rw [V_main_arg2]
  refine congrArg (cen m c) (funext fun a => Fin.ext ?_)
  match a with
  | ⟨0, _⟩ => show win0_4.index t 0 * 1024 + 1 * r.val = 2048 * t.val + r.val; rw [hi.1]; omega
  | ⟨1, _⟩ => show win0_4.index t 1 * 1024 + 1 * k.val = k.val; rw [hi.2]; omega

/-- The second. -/
theorem cen_1 (c : Dev nD) (t : Fin cfg0.N) (r k : Fin 1024) :
    iblk m c 5 t (ix2 r k) = cen m c (ix2 ⟨2048 * t.val + 1024 + r.val, by have := lt_N t; omega⟩ k) := by
  have hi := (index_cen t).2
  unfold iblk
  rw [View.read_apply]
  show V m c main_arg2 _ = _
  rw [V_main_arg2]
  refine congrArg (cen m c) (funext fun a => Fin.ext ?_)
  match a with
  | ⟨0, _⟩ => show win0_5.index t 0 * 1024 + 1 * r.val = 2048 * t.val + 1024 + r.val; rw [hi.1]; omega
  | ⟨1, _⟩ => show win0_5.index t 1 * 1024 + 1 * k.val = k.val; rw [hi.2]; omega

/-- The labels as the launch finds them: the argument, reshaped. -/
theorem V_labels (c : Dev nD) (b : Fin 2048) : V m c main_call0_v0 (ix3 0 0 b) = lbl m c (ix1 b) := by
  unfold V
  simp only [hostOps0, StableHlo.after_cons, StableHlo.after_nil, StableHlo.TRef.reshape]
  rw [StableHlo.reshape_result]
  refine shapeCast_apply _ _ _ (ix1 b) ?_
  refine (Shape.rowMajor_val_one (ix1 b)).trans ((Shape.rowMajor_val_three (ix3 (0 : Fin 1) (0 : Fin 1) b)).trans ?_).symm
  show (0 * 1 + 0) * 2048 + b.val = b.val
  omega

/-- The labels' block. -/
theorem lbl_0 (c : Dev nD) (t : Fin cfg0.N) (b : Fin 2048) : iblk m c 6 t (ix3 0 0 b) = lbl m c (ix1 b) := by
  have hi := index_lbl t
  rw [← V_labels]
  unfold iblk
  rw [View.read_apply]
  show V m c main_call0_v0 _ = _
  refine congrArg (V m c main_call0_v0) (funext fun a => Fin.ext ?_)
  match a with
  | ⟨0, _⟩ => show win0_6.index t 0 * 1 + 1 * 0 = 0; rw [hi.1]
  | ⟨1, _⟩ => show win0_6.index t 1 * 1 + 1 * 0 = 0; rw [hi.2.1]
  | ⟨2, _⟩ => show win0_6.index t 2 * 2048 + 1 * b.val = b.val; rw [hi.2.2]; omega

/-- The scaled points, entry by entry: the point's coordinate times `2 / ln 2`. -/
def scaled (c : Dev nD) : FVec Ideal S1024x2048 .f32 := fun j =>
  pts m c (ix2 (j 1) (j 0)) * ((2 * (Real.log 2)⁻¹ : ℝ) : EReal)

/-- One strip of the scaled points. -/
theorem strip_6 (x : FVec Ideal S2048x256 .f32) (k : Fin 256) (b : Fin 2048) :
    k0_pay6 (F := Ideal) x (ix2 k b) = x (ix2 b k) * ((2 * (Real.log 2)⁻¹ : ℝ) : EReal) := by
  pointwise [k0_pay6]
  rw [Consts.two_inv_ln2]
theorem strip_7 (x : FVec Ideal S2048x256 .f32) (k : Fin 256) (b : Fin 2048) :
    k0_pay7 (F := Ideal) x (ix2 k b) = x (ix2 b k) * ((2 * (Real.log 2)⁻¹ : ℝ) : EReal) := by
  pointwise [k0_pay7]
  rw [Consts.two_inv_ln2]
theorem strip_8 (x : FVec Ideal S2048x256 .f32) (k : Fin 256) (b : Fin 2048) :
    k0_pay8 (F := Ideal) x (ix2 k b) = x (ix2 b k) * ((2 * (Real.log 2)⁻¹ : ℝ) : EReal) := by
  pointwise [k0_pay8]
  rw [Consts.two_inv_ln2]
theorem strip_9 (x : FVec Ideal S2048x256 .f32) (k : Fin 256) (b : Fin 2048) :
    k0_pay9 (F := Ideal) x (ix2 k b) = x (ix2 b k) * ((2 * (Real.log 2)⁻¹ : ℝ) : EReal) := by
  pointwise [k0_pay9]
  rw [Consts.two_inv_ln2]

/-- A strip of 256 rows that starts at row `o` holds the scaled points there. -/
theorem strip_at (c : Dev nD) (o : ℕ) (ho : o + 256 ≤ 1024) (inb : ∀ a, (![o, 0] : Fin 2 → ℕ) a + (![256, 2048] : Fin 2 → ℕ) a ≤ S1024x2048.size a)
    (w : FVec Ideal S256x2048 .f32)
    (hw : ∀ (k : Fin 256) (b : Fin 2048), w (ix2 k b) = pts m c (ix2 b ⟨o + k.val, by omega⟩) * ((2 * (Real.log 2)⁻¹ : ℝ) : EReal))
    (x : S256x2048.Idx) : w x = scaled m c ((Rect.unit (s := S1024x2048) ![o, 0] ![256, 2048] inb).emb x) := by
  obtain ⟨k, b, rfl⟩ : ∃ (k : Fin 256) (b : Fin 2048), x = ix2 k b := ⟨x 0, x 1, eq_ix2 x⟩
  rw [hw]
  unfold scaled
  refine congrArg (fun i => pts m c i * _) (funext fun a => Fin.ext ?_)
  match a with
  | ⟨0, _⟩ => show b.val = 0 + 1 * b.val; omega
  | ⟨1, _⟩ => show o + k.val = o + 1 * k.val; omega

/-- A row of a strip lies in the strip's rectangle. -/
theorem mem_strip (o : ℕ) (inb : ∀ a, (![o, 0] : Fin 2 → ℕ) a + (![256, 2048] : Fin 2 → ℕ) a ≤ S1024x2048.size a) (y : S1024x2048.Idx)
    (h0 : o ≤ (y 0).val) (h1 : (y 0).val < o + 256) : y ∈ (Rect.unit (s := S1024x2048) ![o, 0] ![256, 2048] inb).set := by
  rw [Rect.mem_set_unit]
  intro a
  match a with
  | ⟨0, _⟩ => exact ⟨h0, h1⟩
  | ⟨1, _⟩ => exact ⟨Nat.zero_le _, lt_of_lt_of_eq (y 1).isLt (Nat.zero_add _).symm⟩

/-- The four strips are the scaled points. -/
theorem strips_eq (c : Dev nD) (t : Fin cfg0.N) :
    View.canon (strips (iblk m c 0 t) (iblk m c 1 t) (iblk m c 2 t) (iblk m c 3 t)) = scaled m c := by
  funext y
  refine View.canon_apply_of_pieces (Val := Elt Ideal) (S := S1024x2048) (e := .f32) (scaled m c) _ ?_ y ?_
  · intro p hp x
    rcases List.mem_cons.mp hp with rfl | hp
    · exact strip_at m c 768 (by omega) inb_S1024x2048_S256x2048_768_0 _ (fun k b => (strip_9 _ k b).trans (by rw [pts_3])) x
    rcases List.mem_cons.mp hp with rfl | hp
    · exact strip_at m c 512 (by omega) inb_S1024x2048_S256x2048_512_0 _ (fun k b => (strip_8 _ k b).trans (by rw [pts_2])) x
    rcases List.mem_cons.mp hp with rfl | hp
    · exact strip_at m c 256 (by omega) inb_S1024x2048_S256x2048_256_0 _ (fun k b => (strip_7 _ k b).trans (by rw [pts_1])) x
    rcases List.mem_cons.mp hp with rfl | hp
    · exact strip_at m c 0 (by omega) inb_S1024x2048_S256x2048_0_0 _ (fun k b => (strip_6 _ k b).trans (by rw [pts_0])) x
    nomatch hp
  · have hy : (y 0).val < 1024 := (y 0).isLt
    by_cases h3 : 768 ≤ (y 0).val
    · exact ⟨_, List.mem_cons_self, mem_strip 768 inb_S1024x2048_S256x2048_768_0 y h3 (by omega)⟩
    by_cases h2 : 512 ≤ (y 0).val
    · exact ⟨_, List.mem_cons_of_mem _ List.mem_cons_self, mem_strip 512 inb_S1024x2048_S256x2048_512_0 y h2 (by omega)⟩
    by_cases h1 : 256 ≤ (y 0).val
    · exact ⟨_, List.mem_cons_of_mem _ (List.mem_cons_of_mem _ List.mem_cons_self), mem_strip 256 inb_S1024x2048_S256x2048_256_0 y h1 (by omega)⟩
    · exact ⟨_, List.mem_cons_of_mem _ (List.mem_cons_of_mem _ (List.mem_cons_of_mem _ List.mem_cons_self)),
        mem_strip 0 inb_S1024x2048_S256x2048_0_0 y (Nat.zero_le _) (by omega)⟩

end Cert.Proof.Blocks

end
-- ==== Proof.Online.lean ====
/-
  The mathematics of a running maximum and a running sum of powers of two, over the extended reals: what the kernel keeps
  for one point of the batch while it goes through the centroids in chunks, and what one chunk does to it.
-/
module

public import Idealize.ShloMosaic.PureOps.Ideal
public import Mathlib.Analysis.SpecialFunctions.Pow.Real
public import Mathlib.Analysis.SpecialFunctions.Log.Basic

@[expose] public section

noncomputable section

namespace Cert.Proof.Online

open Idealize.ShloMosaic

/-- A finite sum of reals, read in the extended reals, is the sum there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Folding `max` from `-∞` over a finite nonempty family of reals gives a real: the greatest of them. -/
theorem fold_max {ι : Type*} [Fintype ι] [Nonempty ι] (g : ι → ℝ) :
    ∃ ν : ℝ, Finset.univ.fold max (⊥ : EReal) (fun i => (g i : EReal)) = (ν : EReal) ∧ IsGreatest (Set.range g) ν := by
  obtain ⟨i, -, hi⟩ := Finset.exists_max_image Finset.univ g Finset.univ_nonempty
  refine ⟨g i, le_antisymm ?_ ?_, ⟨⟨i, rfl⟩, ?_⟩⟩
  · exact (Finset.fold_max_le _).mpr ⟨bot_le, fun x hx => EReal.coe_le_coe_iff.mpr (hi x hx)⟩
  · exact Finset.le_fold_max (g i : EReal) |>.mpr (Or.inr ⟨i, Finset.mem_univ i, le_rfl⟩)
  · rintro _ ⟨x, rfl⟩
    exact hi x (Finset.mem_univ x)

/-- Folding `max` from `-∞` over equal values gives that value. -/
theorem fold_max_const {ι : Type*} [Fintype ι] [Nonempty ι] (v : EReal) :
    Finset.univ.fold max (⊥ : EReal) (fun _ : ι => v) = v := by
  refine le_antisymm ((Finset.fold_max_le _).mpr ⟨bot_le, fun _ _ => le_rfl⟩) ?_
  exact (Finset.le_fold_max v).mpr (Or.inr ⟨Classical.arbitrary ι, Finset.mem_univ _, le_rfl⟩)

/-- What is kept after the first `N` terms of `h`: `M` is their maximum (`-∞` for none), `L` the sum of the powers of two
    of their distances from it, `T` the term at the label `y` if it has come. -/
structure Kept (h : ℕ → ℝ) (y N : ℕ) (M L T : EReal) : Prop where
  start : N = 0 → M = ⊥ ∧ L = 0
  run : 0 < N → ∃ μ : ℝ, M = (μ : EReal) ∧ IsGreatest (h '' {j | j < N}) μ
    ∧ L = ((∑ j ∈ Finset.range N, (2 : ℝ) ^ (h j - μ) : ℝ) : EReal)
  term : T = ((∑ j ∈ Finset.range N, if j = y then h j else 0 : ℝ) : EReal)

/-- Before the first term. -/
theorem kept_zero (h : ℕ → ℝ) (y : ℕ) : Kept h y 0 ⊥ 0 0 :=
  ⟨fun _ => ⟨rfl, rfl⟩, fun h => absurd h (lt_irrefl 0), by simp⟩

theorem exp2_sub (a b : ℝ) : Ideal.exp2 ((a : EReal) - (b : EReal)) = (((2 : ℝ) ^ (a - b) : ℝ) : EReal) := by
  rw [← EReal.coe_sub]; rfl

/-- The maximum over the first `N + K` terms, from the maximum over the first `N` and the maximum over the next `K`. -/
theorem isGreatest_append (h : ℕ → ℝ) (N K : ℕ) (μ ν : ℝ) (h1 : IsGreatest (h '' {j | j < N}) μ)
    (h2 : IsGreatest (Set.range fun x : Fin K => h (N + x)) ν) : IsGreatest (h '' {j | j < N + K}) (max μ ν) := by
  constructor
  · rcases max_choice μ ν with e | e <;> rw [e]
    · obtain ⟨j, hj, rfl⟩ := h1.1
      exact ⟨j, lt_of_lt_of_le hj (Nat.le_add_right _ _), rfl⟩
    · obtain ⟨x, rfl⟩ := h2.1
      exact ⟨N + x, Nat.add_lt_add_left x.isLt N, rfl⟩
  · rintro _ ⟨j, hj, rfl⟩
    by_cases hN : j < N
    · exact le_max_of_le_left (h1.2 ⟨j, hN, rfl⟩)
    · refine le_max_of_le_right (h2.2 ⟨⟨j - N, ?_⟩, ?_⟩)
      · have : j < N + K := hj
        omega
      · show h (N + (j - N)) = h j
        rw [Nat.add_sub_cancel' (not_lt.mp hN)]

/-- One chunk of `K` terms: the new maximum, the sum scaled to it plus the chunk's powers, and the chunk's label term. -/
theorem kept_step (h : ℕ → ℝ) (y N K : ℕ) [Nonempty (Fin K)] (M L T : EReal) (hk : Kept h y N M L T) (c : Fin K → EReal)
    (hc : ∀ x, c x = (h (N + x) : EReal)) (M' : EReal) (hM : M' = max M (Finset.univ.fold max ⊥ c)) :
    Kept h y (N + K) M' (L * Ideal.exp2 (M - M') + ∑ x, Ideal.exp2 (c x - M')) (T + ∑ x : Fin K, if N + x = y then c x else 0) := by
  have hK : 0 < K := Fin.pos_iff_nonempty.mpr ‹_›
  obtain rfl : c = fun x : Fin K => (h (N + x) : EReal) := funext hc
  obtain ⟨ν, hν, gν⟩ := fold_max fun x : Fin K => h (N + x)
  rw [hν] at hM
  refine ⟨fun e => absurd e (by omega), fun _ => ?_, ?_⟩
  · rcases Nat.eq_zero_or_pos N with rfl | hN
    · obtain ⟨rfl, rfl⟩ := hk.start rfl
      obtain rfl : M' = (ν : EReal) := by rw [hM]; exact max_eq_right bot_le
      refine ⟨ν, rfl, ?_, ?_⟩
      · convert gν using 1
        ext v
        simp only [Set.mem_image, Set.mem_setOf_eq, Set.mem_range, zero_add]
        exact ⟨fun ⟨j, hj, e⟩ => ⟨⟨j, hj⟩, e⟩, fun ⟨x, e⟩ => ⟨x, x.isLt, e⟩⟩
      · simp only [exp2_sub, zero_mul, zero_add]
        rw [Finset.sum_range, coe_sum]
    · obtain ⟨μ, rfl, gμ, rfl⟩ := hk.run hN
      obtain rfl : M' = ((max μ ν : ℝ) : EReal) := by rw [hM]; exact (EReal.coe_strictMono.monotone.map_max).symm
      refine ⟨max μ ν, rfl, isGreatest_append h N K μ ν gμ gν, ?_⟩
      simp only [exp2_sub]
      rw [Finset.sum_range_add, EReal.coe_add, ← EReal.coe_mul, Finset.sum_mul, Finset.sum_range (n := K), coe_sum Finset.univ]
      congr 2
      refine Finset.sum_congr rfl fun j _ => ?_
      rw [← Real.rpow_add two_pos]
      congr 1
      ring
  · rw [hk.term, Finset.sum_range_add, EReal.coe_add, Finset.sum_range (n := K), coe_sum Finset.univ]
    congr 1
    refine Finset.sum_congr rfl fun x _ => ?_
    split <;> simp

/-- The label term, once every term has come. -/
theorem kept_label (h : ℕ → ℝ) (y N : ℕ) (M L T : EReal) (hk : Kept h y N M L T) (hy : y < N) : T = (h y : EReal) := by
  rw [hk.term, Finset.sum_ite_eq' (Finset.range N) y, if_pos (Finset.mem_range.mpr hy)]

end Cert.Proof.Online

end
-- ==== Proof.Rows.lean ====
/-
  The kernel's arithmetic at the extended reals, entry by entry: what one chunk of 1024 centroids does to the running
  maxima, sums and label terms, and what the last point makes of them.
-/
module

public import proofs.«01_k».proof.Proof.Steps
public import proofs.«01_k».proof.Proof.Online
public import proofs.«01_k».proof.Proof.Consts
public import Idealize.ShloMosaic.Lib.Pointwise

@[expose] public section

set_option maxRecDepth 16384

noncomputable section

namespace Cert.Proof.Rows

open Cert.KernelIdeal Cert.KernelIdeal.Gen Idealize.ShloMosaic Idealize.ShloMosaic.TcCoe Idealize.SL.Sem Cert.Proof.Steps
  Cert.Proof.Online

/-- The eight rows of a held array are one row. -/
def Same (A : FVec Ideal S8x2048 .f32) (v : Fin 2048 → EReal) : Prop := ∀ (a : Fin 8) (b : Fin 2048), A (ix2 a b) = v b

/-- What is held after `N` centroids: for each point `b`, the maximum, sum and label term of the scores `h b`. -/
def Holds (h : Fin 2048 → ℕ → ℝ) (y : Fin 2048 → ℕ) (N : ℕ) (M L T : FVec Ideal S8x2048 .f32) : Prop :=
  ∃ m l t, Same M m ∧ Same L l ∧ Same T t ∧ ∀ b, Kept (h b) (y b) N (m b) (l b) (t b)

/-- The greatest of eight equal entries. -/
theorem fold_same (A : FVec Ideal S8x2048 .f32) (v : Fin 2048 → EReal) (hA : Same A v) (b : Fin 2048) :
    Finset.univ.fold max (Ideal.ofBits .f32 0xFF800000#32) (fun a : Fin 8 => A (ix2 a b)) = v b := by
  rw [Consts.neg_inf, show (fun a : Fin 8 => A (ix2 a b)) = fun _ => v b from funext fun a => hA a b]
  exact fold_max_const _

/-- The greatest entry of a column, at any size. -/
theorem column_max {n k : ℕ} (A : FVec Ideal ⟨2, ![n, k]⟩ .f32) (h : (⟨2, ![n, k]⟩ : Shape).Reduces [0] ⟨1, ![k]⟩)
    (hφ : FKind.Formats .f32) (hacc : (0xFF800000#32 : BitVec 32) = FKind.maximumf.neutral .f32 hφ) (b : Fin k) :
    multiReduction .maximumf [0] ⟨1, ![k]⟩ A 0xFF800000#32 h hφ hacc (ix1 b) = Finset.univ.fold max ⊥ fun r : Fin n => A (ix2 r b) := by
  rw [multiReduction_maximumf_eq_fold, Shape.Reduces.fold_fiber_r2_a0, ← Consts.neg_inf]
  rfl

/-- A chunk's greatest score of each point. -/
def chunkMax (S : FVec Ideal S1024x2048 .f32) : FVec Ideal S2048 .f32 :=
  multiReduction .maximumf [0] S2048 S 0xFF800000#32 reduces_S1024x2048_S2048 (.inl rfl) rfl

theorem chunkMax_eq (S : FVec Ideal S1024x2048 .f32) (b : Fin 2048) :
    chunkMax S (ix1 b) = Finset.univ.fold max ⊥ fun r : Fin 1024 => S (ix2 r b) :=
  column_max (n := 1024) (k := 2048) S reduces_S1024x2048_S2048 (.inl rfl) rfl b

/-- The held maxima, raised to those of a chunk. -/
def raised (v : FVec Ideal S2048 .f32) (M : FVec Ideal S8x2048 .f32) : FVec Ideal S1x2048 .f32 :=
  maximumf (k0_pay14 (F := Ideal) M) (shapeCast S1x2048 v shapeCasts_S2048_S1x2048)

theorem raised_eq (v : FVec Ideal S2048 .f32) (M : FVec Ideal S8x2048 .f32) (m : Fin 2048 → EReal) (hM : Same M m) (b : Fin 2048) :
    raised v M (ix2 0 b) = max (m b) (v (ix1 b)) := by
  pointwise [raised, k0_pay14]
  rw [fold_same M m hM b]

theorem pay15_eq (C : FVec Ideal S1024x1024 .f32) (X : FVec Ideal S1024x2048 .f32) (M : FVec Ideal S8x2048 .f32) :
    k0_pay15 (F := Ideal) C X M = raised (chunkMax (k0_pay13 (F := Ideal) C X)) M := rfl

/-- The maximum that the chunk's sum is scaled to is the new one. -/
theorem pay15_row (C : FVec Ideal S1024x1024 .f32) (X : FVec Ideal S1024x2048 .f32) (M : FVec Ideal S8x2048 .f32)
    (m : Fin 2048 → EReal) (hM : Same M m) (b : Fin 2048) :
    k0_pay15 (F := Ideal) C X M (ix2 0 b) = max (m b) (Finset.univ.fold max ⊥ fun r : Fin 1024 => k0_pay13 (F := Ideal) C X (ix2 r b)) := by
  rw [pay15_eq, raised_eq _ M m hM b, chunkMax_eq]

/-- A row, spread over the eight rows of a held array. -/
theorem pay18_row (v : FVec Ideal S1x2048 .f32) (a : Fin 8) (b : Fin 2048) : k0_pay18 (F := Ideal) v (ix2 a b) = v (ix2 0 b) := by
  pointwise [k0_pay18]

/-- The new maximum of each point. -/
theorem stepMax_row (C : FVec Ideal S1024x1024 .f32) (X : FVec Ideal S1024x2048 .f32) (M : FVec Ideal S8x2048 .f32)
    (m : Fin 2048 → EReal) (hM : Same M m) :
    Same (stepMax (F := Ideal) C X M) fun b => max (m b) (Finset.univ.fold max ⊥ fun r : Fin 1024 => k0_pay13 (F := Ideal) C X (ix2 r b)) :=
  fun a b => (pay18_row (k0_pay15 (F := Ideal) C X M) a b).trans (pay15_row C X M m hM b)

/-- The new sum of each point. -/
theorem stepSum_row (C : FVec Ideal S1024x1024 .f32) (X : FVec Ideal S1024x2048 .f32) (M L : FVec Ideal S8x2048 .f32)
    (m l : Fin 2048 → EReal) (hM : Same M m) (hL : Same L l) (m' : Fin 2048 → EReal)
    (hm' : ∀ b, m' b = max (m b) (Finset.univ.fold max ⊥ fun r : Fin 1024 => k0_pay13 (F := Ideal) C X (ix2 r b))) :
    Same (stepSum (F := Ideal) C X M L) fun b =>
      l b * Ideal.exp2 (m b - m' b) + ∑ r : Fin 1024, Ideal.exp2 (k0_pay13 (F := Ideal) C X (ix2 r b) - m' b) := by
  intro a b
  pointwise [stepSum, k0_pay16, k0_pay19, k0_pay14]
  rw [fold_same M m hM b, fold_same L l hL b, pay15_row C X M m hM b, hm' b]
  rfl

/-- A selection by an equality test. -/
theorem select_eq (a b : BitVec 32) (u v : EReal) :
    Scalar.select (IntOp.cmpi .eq a b) u v = if a = b then u else v := by
  by_cases e : a = b
  · subst e
    rw [if_pos rfl]
    simp [Scalar.select, IntOp.cmpi]
  · rw [if_neg e]
    simp [Scalar.select, IntOp.cmpi, beq_eq_false_iff_ne.mpr e]

/-- The label test of a chunk that starts at centroid `N`. -/
theorem test_iff (N : ℕ) (hN : N + 1024 ≤ 8192) (r : Fin 1024) (y : BitVec 32) :
    BitVec.ofNat 32 r.val = y - BitVec.ofNat 32 N ↔ N + r.val = y.toNat := by
  have hr := r.isLt
  rw [← BitVec.toNat_inj, BitVec.toNat_sub, BitVec.toNat_ofNat, BitVec.toNat_ofNat]
  have := y.isLt
  omega

/-- The scores that the label term reads are the chunk's scores. -/
theorem pay21_eq (C : FVec Ideal S1024x1024 .f32) (X : FVec Ideal S1024x2048 .f32) :
    k0_pay21 (F := Ideal) C X = k0_pay13 (F := Ideal) C X := rfl

/-- The new label term of each point. -/
theorem stepTerm_row (N : ℕ) (hN : N + 1024 ≤ 8192) (C : FVec Ideal S1024x1024 .f32) (X : FVec Ideal S1024x2048 .f32)
    (y : IVec S1x1x2048 32) (T : FVec Ideal S8x2048 .f32) (t : Fin 2048 → EReal) (hT : Same T t) :
    Same (stepTerm (F := Ideal) (BitVec.ofNat 32 N) C X y T) fun b =>
      t b + ∑ r : Fin 1024, if N + r.val = (y (ix3 0 0 b)).toNat then k0_pay13 (F := Ideal) C X (ix2 r b) else 0 := by
  intro a b
  pointwise [stepTerm, k0_pay27]
  rw [hT a b]
  congr 1
  refine Finset.sum_congr rfl fun r _ => ?_
  refine (select_eq _ _ _ _).trans ?_
  rw [pay21_eq]
  exact if_congr (test_iff N hN r _) rfl rfl

/-- One chunk. -/
theorem chunk (h : Fin 2048 → ℕ → ℝ) (N : ℕ) (hN : N + 1024 ≤ 8192) (C : FVec Ideal S1024x1024 .f32)
    (X : FVec Ideal S1024x2048 .f32) (y : IVec S1x1x2048 32) (M L T : FVec Ideal S8x2048 .f32)
    (hC : ∀ (r : Fin 1024) (b : Fin 2048), k0_pay13 (F := Ideal) C X (ix2 r b) = (h b (N + r.val) : EReal))
    (hk : Holds h (fun b => (y (ix3 0 0 b)).toNat) N M L T) :
    Holds h (fun b => (y (ix3 0 0 b)).toNat) (N + 1024) (stepMax (F := Ideal) C X M) (stepSum (F := Ideal) C X M L)
      (stepTerm (F := Ideal) (BitVec.ofNat 32 N) C X y T) := by
  obtain ⟨m, l, t, hM, hL, hT, hb⟩ := hk
  refine ⟨_, _, _, stepMax_row C X M m hM, stepSum_row C X M L m l hM hL _ fun _ => rfl, stepTerm_row N hN C X y T t hT, fun b => ?_⟩
  exact kept_step (h b) _ N 1024 _ _ _ (hb b) (fun r => k0_pay13 (F := Ideal) C X (ix2 r b)) (fun r => hC r b) _ rfl

/-- The scores of a chunk, when its centroids and the scaled points are real. -/
theorem scores (C : FVec Ideal S1024x1024 .f32) (X : FVec Ideal S1024x2048 .f32) (u v : Fin 1024 → ℝ) (r : Fin 1024)
    (b : Fin 2048) (hC : ∀ k, C (ix2 r k) = (u k : EReal)) (hX : ∀ k, X (ix2 k b) = (v k : EReal)) :
    k0_pay13 (F := Ideal) C X (ix2 r b) = ((∑ k, u k * v k - (∑ k, u k * u k) * (Real.log 2)⁻¹ : ℝ) : EReal) := by
  pointwise [k0_pay13]
  simp only [hC, hX, Consts.inv_ln2, ← EReal.coe_mul, ← coe_sum, ← EReal.coe_sub]

end Cert.Proof.Rows

end
-- ==== Proof.Outputs.lean ====
/-
  The last grid point's two results, out of the running maxima, sums and label terms.
-/
module

public import proofs.«01_k».proof.Proof.Rows

@[expose] public section

set_option maxRecDepth 16384

noncomputable section

namespace Cert.Proof.Outputs

open Cert.KernelIdeal Cert.KernelIdeal.Gen Idealize.ShloMosaic Idealize.ShloMosaic.TcCoe Idealize.SL.Sem Cert.Proof.Steps
  Cert.Proof.Online Cert.Proof.Rows

/-- The loss that the last point stores. -/
theorem loss_eq (M L T : FVec Ideal S8x2048 .f32) (m l t : Fin 2048 → EReal) (hM : Same M m) (hL : Same L l) (hT : Same T t) :
    k0_pay4 (F := Ideal) M L T
      = (∑ b : Fin 2048, (m b + Ideal.log (l b) * (((Real.log 2)⁻¹ : ℝ) : EReal) - t b) * ((Real.log 2 : ℝ) : EReal))
        * ((1 / 2048 : ℝ) : EReal) := by
  pointwise [k0_pay4, k0_pay2, k0_pay3]
  simp only [fold_same M m hM, fold_same L l hL, fold_same T t hT, Consts.inv_ln2, Consts.ln2, Consts.inv_size]
  simp

/-- An equality test, counted. -/
theorem count_eq (u v : EReal) :
    (FloatOps.sitofp (F := Ideal) .f32 (BitVec.setWidth 32 (BitVec.ofBool (decide (u = v)))) : EReal) = if u = v then (1 : EReal) else 0 := by
  by_cases e : u = v
  · rw [if_pos e, decide_eq_true e]
    show (((BitVec.setWidth 32 (BitVec.ofBool true)).toInt : ℝ) : EReal) = 1
    rw [show (BitVec.setWidth 32 (BitVec.ofBool true)).toInt = 1 by decide]
    simp
  · rw [if_neg e, decide_eq_false e]
    show (((BitVec.setWidth 32 (BitVec.ofBool false)).toInt : ℝ) : EReal) = 0
    rw [show (BitVec.setWidth 32 (BitVec.ofBool false)).toInt = 0 by decide]
    simp

/-- The score that the last point stores. -/
theorem score_eq (M T : FVec Ideal S8x2048 .f32) (m t : Fin 2048 → EReal) (hM : Same M m) (hT : Same T t) :
    k0_pay5 (F := Ideal) M T = (∑ b : Fin 2048, if t b = m b then (1 : EReal) else 0) * ((1 / 2048 : ℝ) : EReal) := by
  pointwise [k0_pay5, k0_pay2, k0_pay3]
  simp only [fold_same M m hM, fold_same T t hT, Consts.inv_size]
  rw [Fin.sum_univ_one]
  simp only [count_eq]

/-- What the three hold at the start. -/
theorem holds_zero (h : Fin 2048 → ℕ → ℝ) (y : Fin 2048 → ℕ) : Holds h y 0 (k0_pay10 (F := Ideal)) (k0_pay11 (F := Ideal)) (k0_pay12 (F := Ideal)) := by
  refine ⟨fun _ => ⊥, fun _ => 0, fun _ => 0, fun a b => ?_, fun a b => ?_, fun a b => ?_, fun b => kept_zero _ _⟩
  · pointwise [k0_pay10]
    exact Consts.neg_inf
  · pointwise [k0_pay11]
  · pointwise [k0_pay12]

end Cert.Proof.Outputs

end
-- ==== Proof.Spec.lean ====
/-
  The two programs' inputs as real numbers, and the two families of scores computed from them: the kernel's (which leaves
  the point's own squared norm out and is scaled by `1 / ln 2`) and the reference's logits.
-/
module

public import Idealize.ShloMosaic.PureOps.Ideal
public import Idealize.ShloMosaic.Lib.Pointwise
public import Mathlib.Analysis.SpecialFunctions.Pow.Real
public import Mathlib.Analysis.SpecialFunctions.Log.Basic

@[expose] public section

noncomputable section

namespace Cert.Proof.Spec

open Idealize.ShloMosaic

/-- Arrays of points, centroids and labels. -/
abbrev Pts : Type := FVec Ideal ⟨2, ![2048, 1024]⟩ .f32
abbrev Cen : Type := FVec Ideal ⟨2, ![8192, 1024]⟩ .f32
abbrev Lbl : Type := IVec ⟨1, ![2048]⟩ 32

/-- Coordinate `k` of point `b`. -/
def pt (x : Pts) (b : Fin 2048) (k : Fin 1024) : ℝ := EReal.toReal (x (ix2 b k))

/-- Coordinate `k` of centroid `j`. -/
def ce (c : Cen) (j : ℕ) (k : Fin 1024) : ℝ := if h : j < 8192 then EReal.toReal (c (ix2 ⟨j, h⟩ k)) else 0

/-- The label of point `b`. -/
def lab (y : Lbl) (b : Fin 2048) : ℕ := (y (ix1 b)).toNat

/-- Every entry is a real number. -/
def RealPts (x : Pts) : Prop := ∀ (b : Fin 2048) (k : Fin 1024), x (ix2 b k) = (pt x b k : EReal)
def RealCen (c : Cen) : Prop := ∀ (j : Fin 8192) (k : Fin 1024), c (ix2 j k) = (ce c j.val k : EReal)

/-- The kernel's score of centroid `j` for point `b`. -/
def sc (x : Pts) (c : Cen) (b : Fin 2048) (j : ℕ) : ℝ :=
  ∑ k, ce c j k * (pt x b k * (2 * (Real.log 2)⁻¹)) - (∑ k, ce c j k * ce c j k) * (Real.log 2)⁻¹

/-- The squared norm of point `b`. -/
def nrm (x : Pts) (b : Fin 2048) : ℝ := ∑ k, pt x b k * pt x b k

/-- The reference's logit: the negated squared distance of point `b` to centroid `j`. -/
def lg (x : Pts) (c : Cen) (b : Fin 2048) (j : ℕ) : ℝ :=
  -(nrm x b + ∑ k, ce c j k * ce c j k - 2 * ∑ k, pt x b k * ce c j k)

theorem log_two_pos : 0 < Real.log 2 := Real.log_pos (by norm_num)

/-- The two differ by the point's squared norm and the factor `ln 2`. -/
theorem sc_eq (x : Pts) (c : Cen) (b : Fin 2048) (j : ℕ) : sc x c b j * Real.log 2 = lg x c b j + nrm x b := by
  have h : (Real.log 2)⁻¹ * Real.log 2 = 1 := inv_mul_cancel₀ log_two_pos.ne'
  have e : ∑ k, ce c j k * (pt x b k * (2 * (Real.log 2)⁻¹)) = 2 * (Real.log 2)⁻¹ * ∑ k, pt x b k * ce c j k := by
    rw [Finset.mul_sum]
    exact Finset.sum_congr rfl fun k _ => by ring
  unfold sc lg
  rw [e, sub_mul]
  calc _ = 2 * ((Real.log 2)⁻¹ * Real.log 2) * (∑ k, pt x b k * ce c j k)
        - (∑ k, ce c j k * ce c j k) * ((Real.log 2)⁻¹ * Real.log 2) := by ring
    _ = _ := by rw [h]; ring

/-- A power of two of a difference of scores is the exponential of the difference of the logits. -/
theorem two_rpow (x : Pts) (c : Cen) (b : Fin 2048) (i j : ℕ) :
    (2 : ℝ) ^ (sc x c b i - sc x c b j) = Real.exp (lg x c b i - lg x c b j) := by
  rw [Real.rpow_def_of_pos two_pos]
  congr 1
  rw [mul_comm, sub_mul, sc_eq, sc_eq]
  ring

/-- The order of the scores is the order of the logits. -/
theorem sc_le (x : Pts) (c : Cen) (b : Fin 2048) (i j : ℕ) : sc x c b i ≤ sc x c b j ↔ lg x c b i ≤ lg x c b j := by
  rw [← mul_le_mul_iff_left₀ log_two_pos, sc_eq, sc_eq, add_le_add_iff_right]

/-- A point's loss, as the kernel computes it from the greatest score `sc i`, is its negated log-softmax at the label. -/
theorem row_loss (x : Pts) (c : Cen) (b : Fin 2048) (i y N : ℕ) :
    (sc x c b i + Real.log (∑ j ∈ Finset.range N, (2 : ℝ) ^ (sc x c b j - sc x c b i)) * (Real.log 2)⁻¹ - sc x c b y) * Real.log 2
      = -(lg x c b y - lg x c b i - Real.log (∑ j ∈ Finset.range N, Real.exp (lg x c b j - lg x c b i))) := by
  have h : (Real.log 2)⁻¹ * Real.log 2 = 1 := inv_mul_cancel₀ log_two_pos.ne'
  simp only [two_rpow]
  rw [sub_mul, add_mul, mul_assoc, h, sc_eq, sc_eq]
  ring

/-- A centroid with the greatest logit of point `b`. -/
theorem exists_best (x : Pts) (c : Cen) (b : Fin 2048) : ∃ i, i < 8192 ∧ ∀ j, j < 8192 → lg x c b j ≤ lg x c b i := by
  obtain ⟨i, hi, h⟩ := Finset.exists_max_image (Finset.range 8192) (lg x c b) ⟨0, Finset.mem_range.mpr (by omega)⟩
  exact ⟨i, Finset.mem_range.mp hi, fun j hj => h j (Finset.mem_range.mpr hj)⟩

def best (x : Pts) (c : Cen) (b : Fin 2048) : ℕ := Classical.choose (exists_best x c b)

theorem best_lt (x : Pts) (c : Cen) (b : Fin 2048) : best x c b < 8192 := (Classical.choose_spec (exists_best x c b)).1
theorem le_best (x : Pts) (c : Cen) (b : Fin 2048) (j : ℕ) (hj : j < 8192) : lg x c b j ≤ lg x c b (best x c b) :=
  (Classical.choose_spec (exists_best x c b)).2 j hj

/-- The greatest score is the best centroid's. -/
theorem greatest_eq (x : Pts) (c : Cen) (b : Fin 2048) (μ : ℝ) (h : IsGreatest (sc x c b '' {j | j < 8192}) μ) :
    μ = sc x c b (best x c b) := by
  refine h.unique ⟨⟨_, best_lt x c b, rfl⟩, ?_⟩
  rintro _ ⟨j, hj, rfl⟩
  exact (sc_le x c b _ _).mpr (le_best x c b j hj)

/-- Equal scores are equal logits. -/
theorem sc_inj (x : Pts) (c : Cen) (b : Fin 2048) (i j : ℕ) : sc x c b i = sc x c b j ↔ lg x c b i = lg x c b j := by
  rw [le_antisymm_iff, le_antisymm_iff, sc_le, sc_le]

/-- A point's log-softmax at its label. -/
def logp (x : Pts) (c : Cen) (b : Fin 2048) (y : ℕ) : ℝ :=
  lg x c b y - lg x c b (best x c b)
    - Real.log (∑ j ∈ Finset.range 8192, Real.exp (lg x c b j - lg x c b (best x c b)))

/-- The mean loss. -/
def meanLoss (x : Pts) (y : Lbl) (c : Cen) : ℝ := (∑ b, -logp x c b (lab y b)) * (1 / 2048)

/-- The share of points whose label has the greatest logit. -/
def hits (x : Pts) (y : Lbl) (c : Cen) : ℝ := (∑ b, if lg x c b (lab y b) = lg x c b (best x c b) then 1 else 0) * (1 / 2048)

end Cert.Proof.Spec

end
-- ==== Proof.Held.lean ====
/-
  The kernel's running state over the whole grid: after grid point `t` it holds the maximum, the sum and the label term of
  the first `2048 (t + 1)` centroids, for every point of the batch.
-/
module

public import proofs.«01_k».proof.Proof.Blocks
public import proofs.«01_k».proof.Proof.Outputs
public import proofs.«01_k».proof.Proof.Spec

@[expose] public section

set_option maxRecDepth 16384

noncomputable section

namespace Cert.Proof.Held

open Cert.KernelIdeal Cert.KernelIdeal.Gen Idealize.ShloMosaic Idealize.ShloMosaic.TcCoe Idealize.SL.Sem Cert.Proof.Steps
  Cert.Proof.Online Cert.Proof.Rows Cert.Proof.Blocks Cert.Proof.Outputs Cert.Proof.Spec

variable (m : (ℓ : Loc nD τ sig) → Buf (Elt Ideal) ℓ)

/-- The number of a grid point's first centroid. -/
theorem base_eq (t : Fin cfg0.N) : base (grid0.coords t) = BitVec.ofNat 32 (2048 * t.val) := by
  rcases fin_N0 t with rfl | rfl | rfl | rfl <;> decide +kernel

/-- The number of its second chunk's first centroid. -/
theorem base_add (N : ℕ) : Scalar.addi (BitVec.ofNat 32 N) 1024#32 = BitVec.ofNat 32 (N + 1024) :=
  (BitVec.ofNat_add N 1024).symm

/-- The labels that the window holds. -/
theorem labels_eq (c : Dev nD) (t : Fin cfg0.N) :
    (fun b : Fin 2048 => ((iblk m c 6 t : IVec S1x1x2048 32) (ix3 0 0 b)).toNat) = lab (lbl m c) :=
  funext fun b => congrArg BitVec.toNat (lbl_0 m c t b)

/-- The scaled points as real numbers. -/
theorem scaled_real (c : Dev nD) (hx : RealPts (pts m c)) (k : Fin 1024) (b : Fin 2048) :
    scaled m c (ix2 k b) = ((pt (pts m c) b k * (2 * (Real.log 2)⁻¹) : ℝ) : EReal) := by
  rw [EReal.coe_mul, ← hx b k]
  rfl

/-- A grid point takes what is held after `2048 t` centroids to what is held after `2048 (t + 1)`. -/
theorem holds_step (c : Dev nD) (hx : RealPts (pts m c)) (hc : RealCen (cen m c)) (t : Fin cfg0.N)
    (p : Vec Ideal S1024x2048 .f32 × Vec Ideal S8x2048 .f32 × Vec Ideal S8x2048 .f32 × Vec Ideal S8x2048 .f32)
    (hp : p.1 = scaled m c) (h : Holds (sc (pts m c) (cen m c)) (lab (lbl m c)) (2048 * t.val) p.2.1 p.2.2.1 p.2.2.2)
    (q : Vec Ideal S1024x2048 .f32 × Vec Ideal S8x2048 .f32 × Vec Ideal S8x2048 .f32 × Vec Ideal S8x2048 .f32)
    (hq : q = twoChunks (base (grid0.coords t)) (iblk m c 4 t) (iblk m c 5 t) (iblk m c 6 t) p) :
    q.1 = scaled m c ∧ Holds (sc (pts m c) (cen m c)) (lab (lbl m c)) (2048 * (t.val + 1)) q.2.1 q.2.2.1 q.2.2.2 := by
  subst hq
  have ht := lt_N t
  obtain ⟨X, M, L, T⟩ := p
  obtain rfl : X = scaled m c := hp
  refine ⟨rfl, ?_⟩
  unfold twoChunks
  dsimp only at h ⊢
  rw [base_eq, base_add, ← labels_eq m c t] at *
  have h1 := chunk (sc (pts m c) (cen m c)) (2048 * t.val) (by omega) (iblk m c 4 t) (scaled m c) (iblk m c 6 t) M L T
    (fun r b => scores _ _ _ _ r b (fun k => (cen_0 m c t r k).trans (hc ⟨2048 * t.val + r.val, by omega⟩ k))
      fun k => scaled_real m c hx k b) h
  exact chunk (sc (pts m c) (cen m c)) (2048 * t.val + 1024) (by omega) (iblk m c 5 t) (scaled m c) (iblk m c 6 t) _ _ _
    (fun r b => scores _ _ _ _ r b (fun k => (cen_1 m c t r k).trans (hc ⟨2048 * t.val + 1024 + r.val, by omega⟩ k))
      fun k => scaled_real m c hx k b) h1

/-- After the first grid point. -/
theorem holds_first (c : Dev nD) (hx : RealPts (pts m c)) (hc : RealCen (cen m c)) (t : Fin cfg0.N) (h0 : t.val = 0) :
    (held m c t.val t.isLt).1 = scaled m c ∧ Holds (sc (pts m c) (cen m c)) (lab (lbl m c)) (2048 * (t.val + 1))
      (held m c t.val t.isLt).2.1 (held m c t.val t.isLt).2.2.1 (held m c t.val t.isLt).2.2.2 := by
  have e := held_A m c t (by omega) (by omega)
  rw [strips_eq] at e
  have z : Holds (sc (pts m c) (cen m c)) (lab (lbl m c)) (2048 * t.val) (k0_pay10 (F := Ideal)) (k0_pay11 (F := Ideal)) (k0_pay12 (F := Ideal)) := by
    rw [h0]
    exact holds_zero _ _
  exact holds_step m c hx hc t (scaled m c, k0_pay10 (F := Ideal), k0_pay11 (F := Ideal), k0_pay12 (F := Ideal)) rfl z _ e

/-- After a later one. -/
theorem holds_next (c : Dev nD) (hx : RealPts (pts m c)) (hc : RealCen (cen m c)) (t : Fin cfg0.N) (h0 : t.val ≠ 0)
    (h : (held m c (t.val - 1) (prev_lt t)).1 = scaled m c ∧ Holds (sc (pts m c) (cen m c)) (lab (lbl m c)) (2048 * t.val)
      (held m c (t.val - 1) (prev_lt t)).2.1 (held m c (t.val - 1) (prev_lt t)).2.2.1 (held m c (t.val - 1) (prev_lt t)).2.2.2) :
    (held m c t.val t.isLt).1 = scaled m c ∧ Holds (sc (pts m c) (cen m c)) (lab (lbl m c)) (2048 * (t.val + 1))
      (held m c t.val t.isLt).2.1 (held m c t.val t.isLt).2.2.1 (held m c t.val t.isLt).2.2.2 := by
  have ht := lt_N t
  refine holds_step m c hx hc t _ h.1 h.2 _ ?_
  by_cases h1 : t.val % 4 = 3
  · exact held_C m c t (by omega) h1
  · exact held_B m c t (by omega) h1

/-- What is held after each grid point. -/
theorem holds_at (c : Dev nD) (hx : RealPts (pts m c)) (hc : RealCen (cen m c)) (n : ℕ) (hn : n < cfg0.N) :
    (held m c n hn).1 = scaled m c
      ∧ Holds (sc (pts m c) (cen m c)) (lab (lbl m c)) (2048 * (n + 1)) (held m c n hn).2.1 (held m c n hn).2.2.1 (held m c n hn).2.2.2 := by
  induction n with
  | zero => exact holds_first m c hx hc ⟨0, hn⟩ rfl
  | succ n ih => exact holds_next m c hx hc ⟨n + 1, hn⟩ (Nat.succ_ne_zero n) (ih (Nat.lt_of_succ_lt hn))

end Cert.Proof.Held

end
-- ==== Proof.KernelValue.lean ====
/-
  The kernel's two results: the mean loss, and the share of points whose label has the greatest logit.
-/
module

public import proofs.«01_k».proof.Proof.Held

@[expose] public section

set_option maxRecDepth 16384

noncomputable section

namespace Cert.Proof.KernelValue

open Cert.KernelIdeal Cert.KernelIdeal.Gen Idealize.ShloMosaic Idealize.ShloMosaic.TcCoe Idealize.SL.Sem Cert.Proof.Steps
  Cert.Proof.Online Cert.Proof.Rows Cert.Proof.Blocks Cert.Proof.Outputs Cert.Proof.Spec Cert.Proof.Held

/-- What the last point makes of one row that has seen every centroid. -/
theorem row_value (x : Pts) (c : Cen) (b : Fin 2048) (y : ℕ) (hy : y < 8192) (M L T : EReal) (h : Kept (sc x c b) y 8192 M L T) :
    (M + Ideal.log L * (((Real.log 2)⁻¹ : ℝ) : EReal) - T) * ((Real.log 2 : ℝ) : EReal) = ((-logp x c b y : ℝ) : EReal)
      ∧ (T = M ↔ lg x c b y = lg x c b (best x c b)) := by
  obtain ⟨μ, rfl, hμ, rfl⟩ := h.run (by omega)
  obtain rfl := greatest_eq x c b μ hμ
  rw [kept_label _ _ _ _ _ _ h hy]
  refine ⟨?_, EReal.coe_eq_coe_iff.trans (sc_inj x c b _ _)⟩
  have hS : 0 < ∑ j ∈ Finset.range 8192, (2 : ℝ) ^ (sc x c b j - sc x c b (best x c b)) :=
    Finset.sum_pos (fun j _ => Real.rpow_pos_of_pos two_pos _) ⟨0, Finset.mem_range.mpr (by omega)⟩
  rw [Ideal.log_coe, if_neg (not_le.mpr hS), ← EReal.coe_mul, ← EReal.coe_add, ← EReal.coe_sub, ← EReal.coe_mul, row_loss]
  rfl

/-- The results out of rows that have seen every centroid. -/
theorem results_value (x : Pts) (y : Lbl) (c : Cen) (hy : ∀ b, lab y b < 8192) (M L T : FVec Ideal S8x2048 .f32)
    (h : Holds (sc x c) (lab y) 8192 M L T) :
    k0_pay4 (F := Ideal) M L T = ((meanLoss x y c : ℝ) : EReal) ∧ k0_pay5 (F := Ideal) M T = ((hits x y c : ℝ) : EReal) := by
  obtain ⟨μ, l, t, hM, hL, hT, hb⟩ := h
  constructor
  · rw [loss_eq M L T μ l t hM hL hT, meanLoss, EReal.coe_mul, coe_sum]
    rw [Finset.sum_congr rfl fun b (_ : b ∈ Finset.univ) => (row_value x c b _ (hy b) _ _ _ (hb b)).1]
  · rw [score_eq M T μ t hM hT, hits, EReal.coe_mul, coe_sum]
    have e (b : Fin 2048) : (if t b = μ b then (1 : EReal) else 0)
        = ((if lg x c b (lab y b) = lg x c b (best x c b) then 1 else 0 : ℝ) : EReal) := by
      rw [if_congr (row_value x c b _ (hy b) _ _ _ (hb b)).2 rfl rfl]
      split <;> simp
    rw [Finset.sum_congr rfl fun b (_ : b ∈ Finset.univ) => e b]

variable (m : (ℓ : Loc nD τ sig) → Buf (Elt Ideal) ℓ)

/-- The two results as arrays of one element. -/
abbrev lossArr (c : Dev nD) : Buf (Elt Ideal) ((c : Thread nD τ).loc main_v0_0) :=
  fun _ => ((meanLoss (pts m c) (lbl m c) (cen m c) : ℝ) : EReal)
abbrev hitsArr (c : Dev nD) : Buf (Elt Ideal) ((c : Thread nD τ).loc main_v0_1) :=
  fun _ => ((hits (pts m c) (lbl m c) (cen m c) : ℝ) : EReal)

/-- What the body leaves in the two results' staging buffers at the last point. -/
theorem outs_last (c : Dev nD) (hx : RealPts (pts m c)) (hc : RealCen (cen m c)) (hy : ∀ b, lab (lbl m c) b < 8192)
    (t : Fin cfg0.N) (ht : t.val = 3) :
    (outsAt0 m c t.val t.isLt).1 = (fun _ => ((meanLoss (pts m c) (lbl m c) (cen m c) : ℝ) : EReal))
      ∧ (outsAt0 m c t.val t.isLt).2.1 = (fun _ => ((hits (pts m c) (lbl m c) (cen m c) : ℝ) : EReal)) := by
  have e := results_C m c t (by omega) (by omega)
  have h := (holds_at m c hx hc t.val t.isLt).2
  rw [show 2048 * (t.val + 1) = 8192 by omega] at h
  have v := results_value _ _ _ hy _ _ _ h
  exact ⟨e.1.trans (funext fun _ => v.1), e.2.trans (funext fun _ => v.2)⟩

/-- The first result's array after the run. -/
theorem arr_loss (c : Dev nD) (hx : RealPts (pts m c)) (hc : RealCen (cen m c)) (hy : ∀ b, lab (lbl m c) b < 8192) :
    (dats m 0 c).arrAt 7 cfg0.N = lossArr m c := by
  refine (dats m 0 c).arrAt_eq_of_cover 7 (lossArr m c) (fun t hf => ?_) fun i => ⟨t0_3, (flush0_7 t0_3).mpr rfl, ?_⟩
  · have h3 : t.val = 3 := by have := (flush0_7 t).mp hf; have := lt_N t; omega
    rw [Cert.KernelIdeal.Value.flushed7, (outs_last m c hx hc hy t h3).1]
    rfl
  · show i ∈ ((View.whole main_v0_0).slice (win0_7.rect t0_3)).set
    rw [View.set_slice_whole, Rect.mem_set_unit]
    intro a
    have h0 : (i 0 : Nat) < 1 := (i 0).isLt
    match a with
    | ⟨0, _⟩ =>
      show win0_7.index t0_3 0 * win0_7.size 0 ≤ (i 0 : Nat) ∧ (i 0 : Nat) < win0_7.index t0_3 0 * win0_7.size 0 + win0_7.xsize (grid0.coords t0_3) 0
      rw [show win0_7.index t0_3 0 * win0_7.size 0 = 0 from by decide +kernel, show win0_7.xsize (grid0.coords t0_3) 0 = 1 from by decide +kernel]
      omega

/-- The second result's array after the run. -/
theorem arr_hits (c : Dev nD) (hx : RealPts (pts m c)) (hc : RealCen (cen m c)) (hy : ∀ b, lab (lbl m c) b < 8192) :
    (dats m 0 c).arrAt 8 cfg0.N = hitsArr m c := by
  refine (dats m 0 c).arrAt_eq_of_cover 8 (hitsArr m c) (fun t hf => ?_) fun i => ⟨t0_3, (flush0_8 t0_3).mpr rfl, ?_⟩
  · have h3 : t.val = 3 := by have := (flush0_8 t).mp hf; have := lt_N t; omega
    rw [Cert.KernelIdeal.Value.flushed8, (outs_last m c hx hc hy t h3).2]
    rfl
  · show i ∈ ((View.whole main_v0_1).slice (win0_8.rect t0_3)).set
    rw [View.set_slice_whole, Rect.mem_set_unit]
    intro a
    have h0 : (i 0 : Nat) < 1 := (i 0).isLt
    match a with
    | ⟨0, _⟩ =>
      show win0_8.index t0_3 0 * win0_8.size 0 ≤ (i 0 : Nat) ∧ (i 0 : Nat) < win0_8.index t0_3 0 * win0_8.size 0 + win0_8.xsize (grid0.coords t0_3) 0
      rw [show win0_8.index t0_3 0 * win0_8.size 0 = 0 from by decide +kernel, show win0_8.xsize (grid0.coords t0_3) 0 = 1 from by decide +kernel]
      omega

end Cert.Proof.KernelValue

end
-- ==== Proof.Folds.lean ====
/-
  The host's reductions of a matrix along its rows, at any size: the greatest entry of a row, whether any of its bits is
  set, and the index of its greatest entry.
-/
module

public import proofs.«01_k».proof.ReferenceIdeal
public import proofs.«01_k».proof.Proof.Online
public import Idealize.ShloMosaic.Lib.Pointwise

@[expose] public section

noncomputable section

namespace Cert.Proof.Folds

open Idealize.ShloMosaic Cert.Proof.Online

variable {n m : ℕ}

/-- The greatest entry of a row of real numbers. -/
theorem row_max [NeZero m] {u : Shape} (h : (⟨2, ![n, m]⟩ : Shape).ReducesTo [1] ⟨1, ![n]⟩) (hu : 0 < u.numel)
    (L : FVec Ideal ⟨2, ![n, m]⟩ .f32) (init : FVec Ideal u .f32) (hi : ∀ i, init i = (⊥ : EReal)) (b : Fin n) (g : Fin m → ℝ)
    (hL : ∀ j, L (ix2 b j) = (g j : EReal)) :
    ∃ ν : ℝ, Host.reduce FloatOps.maximumf L init h hu (ix1 b) = (ν : EReal) ∧ IsGreatest (Set.range g) ν := by
  obtain ⟨ν, hν, gν⟩ := fold_max g
  refine ⟨ν, ?_, gν⟩
  rw [Host.reduce_eq_fold, Shape.ReducesTo.fold_fiber_r2_a1, hi, ← hν]
  exact congrArg (fun F => Finset.univ.fold max (⊥ : EReal) F) (funext hL)

/-- Folding `or` over bits gives one exactly when one of them is. -/
theorem fold_or {ι : Type*} [DecidableEq ι] (s : Finset ι) (f : ι → BitVec 1) :
    s.fold IntOp.ori 0#1 f = 1#1 ↔ ∃ i ∈ s, f i = 1#1 := by
  induction s using Finset.induction_on with
  | empty => simp
  | insert a s ha ih =>
    have e : ∀ p q : BitVec 1, p ||| q = 1#1 ↔ p = 1#1 ∨ q = 1#1 := by decide
    rw [Finset.fold_insert ha]
    simp only [IntOp.ori] at ih ⊢
    rw [e, ih]
    simp

/-- Whether any bit of a row is set. -/
theorem row_any {u : Shape} (h : (⟨2, ![n, m]⟩ : Shape).ReducesTo [1] ⟨1, ![n]⟩) (hu : 0 < u.numel)
    (P : IVec ⟨2, ![n, m]⟩ 1) (init : IVec u 1) (hi : ∀ i, init i = 0#1) (b : Fin n) :
    Host.reduce IntOp.ori P init h hu (ix1 b) = 1#1 ↔ ∃ j, P (ix2 b j) = 1#1 := by
  rw [Host.reduce_eq_fold, Shape.ReducesTo.fold_fiber_r2_a1, hi, fold_or]
  constructor
  · rintro ⟨j, -, hj⟩
    exact ⟨j, hj⟩
  · rintro ⟨j, hj⟩
    exact ⟨j, Finset.mem_univ j, hj⟩

/-! ## The first greatest entry -/

/-- The pair `p` is the value and the index of the first greatest entry of `g` among the indices in `S`. -/
def Best (g : ℕ → ℝ) (S : ℕ → Prop) (p : EReal × BitVec 32) : Prop :=
  ∃ k, S k ∧ p = ((g k : EReal), BitVec.ofNat 32 k) ∧ ∀ k', S k' → g k' < g k ∨ (g k' = g k ∧ k ≤ k')

theorem Best.congr {g : ℕ → ℝ} {S T : ℕ → Prop} {p : EReal × BitVec 32} (h : Best g S p) (e : ∀ k, S k ↔ T k) : Best g T p := by
  rwa [show T = S from funext fun k => propext (e k).symm]

/-- A number below `2 ^ 31` read as a signed word is itself. -/
theorem toInt_ofNat (a : ℕ) (ha : a < 2 ^ 31) : (BitVec.ofNat 32 a).toInt = a := by
  have e : (BitVec.ofNat 32 a).toNat = a := by rw [BitVec.toNat_ofNat]; omega
  rw [BitVec.toInt_eq_toNat_of_lt (by omega), e]

/-- A word is the word of its number. -/
theorem ofNat_toNat (w : BitVec 32) : BitVec.ofNat 32 w.toNat = w :=
  BitVec.eq_of_toNat_eq (by rw [BitVec.toNat_ofNat]; exact Nat.mod_eq_of_lt w.isLt)

/-- The reducer's choice between two entries. -/
theorem choose_eq (r s : ℝ) (a b : ℕ) (ha : a < 2 ^ 31) (hb : b < 2 ^ 31) :
    Cert.ReferenceIdeal.reducer_argmax_f32_i32 (F := Ideal) ((r : EReal), BitVec.ofNat 32 a) ((s : EReal), BitVec.ofNat 32 b)
      = if s < r ∨ (r = s ∧ a < b) then ((r : EReal), BitVec.ofNat 32 a) else ((s : EReal), BitVec.ofNat 32 b) := by
  have hs : (BitVec.ofNat 32 a).slt (BitVec.ofNat 32 b) = decide (a < b) := by
    rw [BitVec.slt_eq_decide, toInt_ofNat a ha, toInt_ofNat b hb, decide_eq_decide]
    omega
  unfold Cert.ReferenceIdeal.reducer_argmax_f32_i32
  rcases lt_trichotomy r s with h | h | h
  · simp [Ideal.cmpf_def, Ideal.cmp, IntOp.ori, IntOp.andi, IntOp.cmpi, Scalar.select, h, h.ne, h.le, hs, not_lt.mpr h.le]
  · subst h
    by_cases hab : a < b <;>
      simp [Ideal.cmpf_def, Ideal.cmp, IntOp.ori, IntOp.andi, IntOp.cmpi, Scalar.select, hs, hab]
  · simp [Ideal.cmpf_def, Ideal.cmp, IntOp.ori, IntOp.andi, IntOp.cmpi, Scalar.select, h, h.ne', h.le, hs]

/-- The reducer keeps the best of the indices seen and one more. -/
theorem best_step (g : ℕ → ℝ) (S : ℕ → Prop) (hS : ∀ k, S k → k < 2 ^ 31) (p : EReal × BitVec 32) (h : Best g S p) (j : ℕ) (hj : j < 2 ^ 31) :
    Best g (fun k => S k ∨ k = j)
      (Cert.ReferenceIdeal.reducer_argmax_f32_i32 (F := Ideal) p ((g j : EReal), BitVec.ofNat 32 j)) := by
  obtain ⟨k, hk, rfl, hb⟩ := h
  rw [choose_eq _ _ _ _ (hS k hk) hj]
  split_ifs with hc
  · refine ⟨k, Or.inl hk, rfl, ?_⟩
    rintro k' (h' | rfl)
    · exact hb k' h'
    · rcases hc with hc | ⟨hc, hl⟩
      · exact Or.inl hc
      · exact Or.inr ⟨hc.symm, hl.le⟩
  · push Not at hc
    refine ⟨j, Or.inr rfl, rfl, ?_⟩
    rintro k' (h' | rfl)
    · rcases hb k' h' with h1 | ⟨h1, h2⟩
      · exact Or.inl (h1.trans_le hc.1)
      · rcases hc.1.lt_or_eq with h3 | h3
        · exact Or.inl (h1 ▸ h3)
        · exact Or.inr ⟨h1.trans h3, (hc.2 h3).trans h2⟩
    · exact Or.inr ⟨rfl, le_rfl⟩

/-- The first entry replaces the reducer's start. -/
theorem best_start (g : ℕ → ℝ) (j : ℕ) :
    Best g (fun k => k = j)
      (Cert.ReferenceIdeal.reducer_argmax_f32_i32 (F := Ideal) ((⊥ : EReal), 0#32) ((g j : EReal), BitVec.ofNat 32 j)) := by
  refine ⟨j, rfl, ?_, fun k' e => Or.inr ⟨by rw [e], e.ge⟩⟩
  unfold Cert.ReferenceIdeal.reducer_argmax_f32_i32
  simp [Ideal.cmpf_def, Ideal.cmp, IntOp.ori, IntOp.andi, Scalar.select]

/-- Folding the reducer over a list of entries keeps the best of all. -/
theorem best_foldl (g : ℕ → ℝ) (l : List ℕ) (hl : ∀ k ∈ l, k < 2 ^ 31) (S : ℕ → Prop) (hS : ∀ k, S k → k < 2 ^ 31)
    (p : EReal × BitVec 32) (h : Best g S p) :
    Best g (fun k => S k ∨ k ∈ l)
      ((l.map fun k => ((g k : EReal), BitVec.ofNat 32 k)).foldl (Cert.ReferenceIdeal.reducer_argmax_f32_i32 (F := Ideal)) p) := by
  induction l generalizing S p with
  | nil => exact h.congr (by simp)
  | cons j l ih =>
    have hj : j < 2 ^ 31 := hl j (by simp)
    refine (ih (fun k hk => hl k (by simp [hk])) (fun k => S k ∨ k = j) ?_ _ (best_step g S hS p h j hj)).congr fun k => ?_
    · rintro k (hk | rfl)
      · exact hS k hk
      · exact hj
    · simp [or_assoc]

/-- The same from the reducer's start. -/
theorem best_all (g : ℕ → ℝ) (l : List ℕ) (hl : ∀ k ∈ l, k < 2 ^ 31) (hne : l ≠ []) :
    Best g (fun k => k ∈ l)
      ((l.map fun k => ((g k : EReal), BitVec.ofNat 32 k)).foldl (Cert.ReferenceIdeal.reducer_argmax_f32_i32 (F := Ideal)) ((⊥ : EReal), 0#32)) := by
  obtain ⟨j, l, rfl⟩ := List.exists_cons_of_ne_nil hne
  have hj : j < 2 ^ 31 := hl j (by simp)
  refine (best_foldl g l (fun k hk => hl k (by simp [hk])) (fun k => k = j) (by rintro k rfl; exact hj) _ (best_start g j)).congr fun k => ?_
  simp

/-- The row-wise arg-max finds the first greatest entry and its index. -/
theorem row_argmax {u : Shape} (h : (⟨2, ![n, m]⟩ : Shape).ReducesTo [1] ⟨1, ![n]⟩) (hu : 0 < u.numel) (hm : m < 2 ^ 31) (h0 : 0 < m)
    (L : FVec Ideal ⟨2, ![n, m]⟩ .f32) (init : FVec Ideal u .f32) (hi : ∀ i, init i = (⊥ : EReal)) (start : IVec u 32)
    (hs : ∀ i, start i = 0#32) (b : Fin n) (g : ℕ → ℝ) (hL : ∀ j, L (ix2 b j) = (g j.val : EReal)) :
    ∃ k < m, Host.argReduce (Cert.ReferenceIdeal.reducer_argmax_f32_i32 (F := Ideal)) L (iotaInDim ⟨2, ![n, m]⟩ 32 1) init start h hu (ix1 b)
        = ((g k : EReal), BitVec.ofNat 32 k) ∧ ∀ k' < m, g k' < g k ∨ (g k' = g k ∧ k ≤ k') := by
  rw [Ideal.argReduce_eq_reduce2, Host.reduce2_eq_foldl_fiber, hi, hs]
  have hfib := h.fiber_r2_a1 (ix1 b)
  have key : Host.argReduceFiber L (iotaInDim ⟨2, ![n, m]⟩ 32 1) h (ix1 b)
      = (((List.finRange (⟨2, ![n, m]⟩ : Shape).numel).filter
            fun i => h.drop ((⟨2, ![n, m]⟩ : Shape).rowMajor.symm i) = ix1 b).map
          fun i => (((⟨2, ![n, m]⟩ : Shape).rowMajor.symm i) 1).val).map fun k => ((g k : EReal), BitVec.ofNat 32 k) := by
    rw [Host.argReduceFiber, List.map_map]
    refine List.map_congr_left fun i hi => ?_
    obtain ⟨k, hk⟩ := (hfib _).mp (by simpa using (List.mem_filter.mp hi).2)
    simp only [Function.comp, ← hk]
    exact Prod.ext (hL k) rfl
  rw [key]
  have mem : ∀ k, k ∈ (((List.finRange (⟨2, ![n, m]⟩ : Shape).numel).filter
            fun i => h.drop ((⟨2, ![n, m]⟩ : Shape).rowMajor.symm i) = ix1 b).map
          fun i => (((⟨2, ![n, m]⟩ : Shape).rowMajor.symm i) 1).val) ↔ k < m := by
    intro k
    constructor
    · intro hk
      obtain ⟨i, -, rfl⟩ := List.mem_map.mp hk
      exact (((⟨2, ![n, m]⟩ : Shape).rowMajor.symm i) 1).isLt
    · intro hk
      refine List.mem_map.mpr ⟨(⟨2, ![n, m]⟩ : Shape).rowMajor (ix2 b ⟨k, hk⟩), List.mem_filter.mpr ⟨List.mem_finRange _, ?_⟩, ?_⟩
      · rw [Equiv.symm_apply_apply]
        exact decide_eq_true ((hfib _).mpr ⟨⟨k, hk⟩, rfl⟩)
      · rw [Equiv.symm_apply_apply]
        rfl
  obtain ⟨k, hk, e, hb⟩ := best_all g _ (fun k hk => ((mem k).mp hk).trans hm) (List.ne_nil_of_mem ((mem 0).mpr h0))
  exact ⟨k, (mem k).mp hk, e, fun k' hk' => hb k' ((mem k').mpr hk')⟩

end Cert.Proof.Folds

end
-- ==== Proof.RefValue.lean ====
/-
  The reference's two results at real points and centroids and labels in range: the mean of the negated log-softmax at
  the labels, and the share of labels that are the index of the first greatest logit.
-/
module

public import proofs.«01_k».proof.Proof.RefRun
public import proofs.«01_k».proof.Proof.Spec
public import proofs.«01_k».proof.Proof.Consts
public import proofs.«01_k».proof.Proof.Folds
public import Idealize.ShloMosaic.Lib.Pointwise

@[expose] public section

set_option maxRecDepth 16384

noncomputable section

namespace Cert.Proof.RefValue

open Cert.ReferenceIdeal Cert.ReferenceIdeal.Gen Idealize.ShloMosaic Cert.Proof.RefRun Cert.Proof.Online Cert.Proof.Spec

/-- The logits. -/
theorem logits_eq (x : Pts) (c : Cen) (hx : RealPts x) (hc : RealCen c) (b : Fin 2048) (j : Fin 8192) :
    logits (F := Ideal) x c (ix2 b j) = ((lg x c b j.val : ℝ) : EReal) := by
  pointwise [logits, pointNorms, centroidNorms, twiceProducts]
  simp only [hx b, hc j, Consts.two, ← EReal.coe_mul, ← coe_sum, ← EReal.coe_add, ← EReal.coe_sub, ← EReal.coe_neg]
  rfl

/-- The greatest entry of each row. -/
abbrev rowMax (L : FVec Ideal S2048x8192 .f32) : FVec Ideal S2048 .f32 :=
  Host.reduce FloatOps.maximumf L (constant (F := Ideal) S_ .f32 0xFF800000#32) reducesTo_S2048x8192_S2048_d1 h_S_

/-- It is the best centroid's logit. -/
theorem rowMax_eq (x : Pts) (c : Cen) (L : FVec Ideal S2048x8192 .f32) (b : Fin 2048)
    (hL : ∀ j : Fin 8192, L (ix2 b j) = ((lg x c b j.val : ℝ) : EReal)) :
    rowMax L (ix1 b) = ((lg x c b (best x c b) : ℝ) : EReal) := by
  obtain ⟨ν, hν, gν⟩ := Folds.row_max (n := 2048) (m := 8192) reducesTo_S2048x8192_S2048_d1 h_S_ L
    (constant (F := Ideal) S_ .f32 0xFF800000#32) (fun _ => Consts.neg_inf) b (fun j => lg x c b j.val) hL
  refine hν.trans (congrArg _ (gν.unique ⟨⟨⟨_, best_lt x c b⟩, rfl⟩, ?_⟩))
  rintro _ ⟨j, rfl⟩
  exact le_best x c b j.val j.isLt

/-- A row shifted by an array of its greatest entries. -/
def lessMax (L : FVec Ideal S2048x8192 .f32) (M : FVec Ideal S2048 .f32) : FVec Ideal S2048x8192 .f32 :=
  subf L (broadcastInDim S2048x8192 ![0, 1] bcast_S2048x1_S2048x8192_0_1
    (broadcastInDim S2048x1 ![0] bcast_S2048_S2048x1_0
      (maximumf (broadcastInDim S2048 ![] bcast_S_S2048 (constant S_ .f32 0xFF800000#32)) M)))

theorem lessMax_eq (L : FVec Ideal S2048x8192 .f32) (M : FVec Ideal S2048 .f32) (b : Fin 2048) (j : Fin 8192) :
    lessMax L M (ix2 b j) = L (ix2 b j) - max (Ideal.ofBits .f32 0xFF800000#32) (M (ix1 b)) := by
  pointwise [lessMax]

/-- The rows less their greatest entries. -/
theorem shifted_eq (x : Pts) (c : Cen) (L : FVec Ideal S2048x8192 .f32) (b : Fin 2048)
    (hL : ∀ j : Fin 8192, L (ix2 b j) = ((lg x c b j.val : ℝ) : EReal)) (j : Fin 8192) :
    shifted (F := Ideal) L (ix2 b j) = ((lg x c b j.val - lg x c b (best x c b) : ℝ) : EReal) := by
  refine (lessMax_eq L (rowMax L) b j).trans ?_
  rw [hL j, rowMax_eq x c L b hL, Consts.neg_inf, max_eq_right bot_le, EReal.coe_sub]

/-- The logarithms of the rows' sums of exponentials. -/
theorem logSums_eq (s : FVec Ideal S2048x8192 .f32) (b : Fin 2048) (f : ℕ → ℝ)
    (hs : ∀ j : Fin 8192, s (ix2 b j) = ((f j.val : ℝ) : EReal)) (j : Fin 8192) :
    logSums (F := Ideal) s (ix2 b j) = ((Real.log (∑ i ∈ Finset.range 8192, Real.exp (f i)) : ℝ) : EReal) := by
  pointwise [logSums]
  simp only [hs, Ideal.exp_coe, ← coe_sum]
  rw [Finset.sum_range, Ideal.log_coe, if_neg (not_le.mpr (Finset.sum_pos (fun i _ => Real.exp_pos _) ⟨0, Finset.mem_univ _⟩))]

/-- The log-softmax of each row. -/
theorem logProbs_eq (x : Pts) (c : Cen) (L : FVec Ideal S2048x8192 .f32) (b : Fin 2048)
    (hL : ∀ j : Fin 8192, L (ix2 b j) = ((lg x c b j.val : ℝ) : EReal)) (j : Fin 8192) :
    logProbs (F := Ideal) L (ix2 b j) = ((logp x c b j.val : ℝ) : EReal) := by
  refine (show logProbs (F := Ideal) L (ix2 b j) = shifted (F := Ideal) L (ix2 b j) - logSums (F := Ideal) (shifted L) (ix2 b j) from rfl).trans ?_
  have e := logSums_eq (shifted (F := Ideal) L) b (fun i => lg x c b i - lg x c b (best x c b)) (shifted_eq x c L b hL) j
  rw [shifted_eq x c L b hL j, e, ← EReal.coe_sub]
  rfl

/-! ## The entry at the label -/

/-- A label in range is its own start index. -/
theorem starts_eq (y : Lbl) (b : Fin 2048) (hy : lab y b < 8192) : starts (F := Ideal) y (ix3 b 0 0) = y (ix1 b) := by
  pointwise [starts]
  have h : (y (ix1 b)).toNat < 8192 := hy
  have hs : (y (ix1 b)).slt 0#32 = false := by
    rw [BitVec.slt_eq_decide, BitVec.toInt_eq_toNat_of_lt (by omega)]
    simp
  simp [IntOp.cmpi, hs, Scalar.select]

/-- Such a start index lies in the row. -/
theorem inRange_eq (i : IVec S2048x1x1 32) (b : Fin 2048) (hi : (i (ix3 b 0 0)).toNat < 8192) : inRange (F := Ideal) i (ix2 b 0) = 1#1 := by
  pointwise [inRange]
  have hs : (0#32).sle (i (ix3 b 0 0)) = true := by
    rw [BitVec.sle_eq_decide, BitVec.toInt_eq_toNat_of_lt (x := i (ix3 b 0 0)) (by omega)]
    simp
  have hl : (i (ix3 b 0 0)).sle 8191#32 = true := by
    rw [BitVec.sle_eq_decide, BitVec.toInt_eq_toNat_of_lt (x := i (ix3 b 0 0)) (by omega)]
    simp
    omega
  simp [IntOp.cmpi, IntOp.andi, hs, hl]

/-- Where the gather finds the start index of row `b`. -/
theorem siIdx_eq (b : Fin 2048) (q : Fin gather_S2048x8192_S2048x1x1_S2048x1_n_1_0_0_1_2_11.startIndexMap.length) :
    gather_S2048x8192_S2048x1x1_S2048x1_n_1_0_0_1_2_11.siIdx (ix2 b 0) q = ix3 b 0 0 := by
  obtain rfl : q = ⟨0, Nat.one_pos⟩ := Fin.ext (Nat.lt_one_iff.mp q.isLt)
  funext a
  match a with
  | ⟨0, _⟩ => rfl
  | ⟨1, _⟩ => rfl
  | ⟨2, _⟩ => rfl

/-- The gather reads each row's entry at its start index. -/
theorem gather_eq (P : FVec Ideal S2048x8192 .f32) (i : IVec S2048x1x1 32) (b : Fin 2048) (hi : (i (ix3 b 0 0)).toNat < 8192) :
    Host.gather gather_S2048x8192_S2048x1x1_S2048x1_n_1_0_0_1_2_11 P i (ix2 b 0) = P (ix2 b ⟨(i (ix3 b 0 0)).toNat, hi⟩) := by
  have hk : ∀ a, a ∉ gather_S2048x8192_S2048x1x1_S2048x1_n_1_0_0_1_2_11.sKept := by decide
  have h0 : (0 : Fin S2048x8192.rank) ∈ gather_S2048x8192_S2048x1x1_S2048x1_n_1_0_0_1_2_11.operandBatchingDims := by decide
  have h1 : (1 : Fin S2048x8192.rank) ∉ gather_S2048x8192_S2048x1x1_S2048x1_n_1_0_0_1_2_11.operandBatchingDims := by decide
  have hs : (1 : Fin S2048x8192.rank) ∈ gather_S2048x8192_S2048x1x1_S2048x1_n_1_0_0_1_2_11.startIndexMap := by decide
  have e : gather_S2048x8192_S2048x1x1_S2048x1_n_1_0_0_1_2_11.start (ix2 b 0) i 1 = (i (ix3 b 0 0)).toNat := by
    unfold GatherDims.start
    rw [dif_pos hs, siIdx_eq, BitVec.toInt_eq_toNat_of_lt (by omega)]
    exact Nat.min_eq_left (Nat.le_sub_one_of_lt hi)
  refine congrArg P (funext fun a => Fin.ext ?_)
  refine (show _ = gather_S2048x8192_S2048x1x1_S2048x1_n_1_0_0_1_2_11.start (ix2 b 0) i a
    + gather_S2048x8192_S2048x1x1_S2048x1_n_1_0_0_1_2_11.batchCoord (ix2 b 0) a
    + gather_S2048x8192_S2048x1x1_S2048x1_n_1_0_0_1_2_11.offCoord (ix2 b 0) a from rfl).trans ?_
  rw [GatherDims.offCoord_eq_zero _ _ _ (hk a), Nat.add_zero]
  match a with
  | ⟨0, _⟩ => exact (congrArg (· + _) (GatherDims.start_batching _ _ _ _ h0)).trans (Nat.zero_add _)
  | ⟨1, _⟩ => exact (congrArg (_ + ·) (GatherDims.batchCoord_eq_zero _ _ _ h1)).trans e

/-- The entry at the label. -/
theorem picked_eq (P : FVec Ideal S2048x8192 .f32) (y : Lbl) (b : Fin 2048) (hy : lab y b < 8192) :
    picked (F := Ideal) P y (ix2 b 0) = P (ix2 b ⟨lab y b, hy⟩) := by
  have e := starts_eq y b hy
  have hi : (starts (F := Ideal) y (ix3 b 0 0)).toNat < 8192 := by rw [e]; exact hy
  have g := gather_eq P (starts (F := Ideal) y) b hi
  refine (show picked (F := Ideal) P y (ix2 b 0) = Scalar.select (inRange (F := Ideal) (starts (F := Ideal) y) (ix2 b 0)) (Host.gather gather_S2048x8192_S2048x1x1_S2048x1_n_1_0_0_1_2_11 P (starts (F := Ideal) y) (ix2 b 0)) _ from rfl).trans ?_
  rw [inRange_eq _ b hi, g]
  refine (show Scalar.select 1#1 _ _ = P (ix2 b ⟨(starts (F := Ideal) y (ix3 b 0 0)).toNat, hi⟩) from rfl).trans ?_
  exact congrArg (fun q => P (ix2 b q)) (Fin.ext (congrArg BitVec.toNat e))

/-! ## The means -/

/-- The negated mean of a column of real numbers. -/
theorem loss_eq (G : FVec Ideal S2048x1 .f32) (f : Fin 2048 → ℝ) (hG : ∀ b, G (ix2 b 0) = (f b : EReal)) (i : S_.Idx) :
    loss (F := Ideal) G i = (((∑ b, -f b) * (1 / 2048) : ℝ) : EReal) := by
  pointwise [loss]
  rw [Finset.sum_congr rfl fun b (_ : b ∈ Finset.univ) => (Fin.sum_univ_one _).trans (hG b), ← coe_sum, Consts.size,
    Ideal.div_coe (by norm_num), ← EReal.coe_mul, ← EReal.coe_neg]
  rw [Finset.sum_neg_distrib, neg_mul]

/-- The conversion of a bit. -/
theorem uitofp_eq (p : BitVec 1) : FloatOps.uitofp (F := Ideal) FTy.f32 p = ((p.toNat : ℝ) : EReal) := rfl

/-- The share of rows at which two arrays of words agree. -/
theorem score_eq (d y : IVec S2048 32) (p : Fin 2048 → Prop) [DecidablePred p] (h : ∀ b, d (ix1 b) = y (ix1 b) ↔ p b) (i : S_.Idx) :
    score (F := Ideal) d y i = (((∑ b, if p b then 1 else 0) * (1 / 2048) : ℝ) : EReal) := by
  have e : ∀ b : Fin 2048, FloatOps.uitofp (F := Ideal) FTy.f32 (IntOp.cmpi .eq (d (ix1 b)) (y (ix1 b))) = (((if p b then 1 else 0 : ℝ)) : EReal) := by
    intro b
    by_cases hp : p b
    · rw [if_pos hp, (h b).mpr hp]
      simp [IntOp.cmpi, uitofp_eq]
    · have hn := mt (h b).mp hp
      rw [if_neg hp]
      simp [IntOp.cmpi, uitofp_eq, beq_eq_false_iff_ne.mpr hn]
  pointwise [score]
  rw [Finset.sum_congr rfl fun b (_ : b ∈ Finset.univ) => e b, ← coe_sum, Consts.size, Ideal.div_coe (by norm_num), ← EReal.coe_mul]

/-- Each row's greatest logit and its index. -/
def firsts (L : FVec Ideal S2048x8192 .f32) : S2048.Idx → Ideal .f32 × BitVec 32 :=
  Host.argReduce (F := Ideal) reducer_argmax_f32_i32 L (iotaInDim S2048x8192 32 1) (constant S_ .f32 0xFF800000#32)
    (constantI S_ 32 0#32) reducesTo_S2048x8192_S2048_d1 h_S_

/-- The arg-max is the array of the indices. -/
theorem nearest_firsts (L : FVec Ideal S2048x8192 .f32) : nearest (F := Ideal) L = Prod.snd ∘ firsts L := rfl

/-- The pair of a row, when its logits are real numbers. -/
theorem firsts_eq (L : FVec Ideal S2048x8192 .f32) (b : Fin 2048) (g : ℕ → ℝ) (hL : ∀ j : Fin 8192, L (ix2 b j) = (g j.val : EReal)) :
    ∃ k < 8192, firsts L (ix1 b) = ((g k : EReal), BitVec.ofNat 32 k) ∧ ∀ k' < 8192, g k' < g k ∨ (g k' = g k ∧ k ≤ k') :=
  Folds.row_argmax (n := 2048) (m := 8192) reducesTo_S2048x8192_S2048_d1 h_S_ (by norm_num) (by norm_num) L
    (constant (F := Ideal) S_ .f32 0xFF800000#32) (fun _ => Consts.neg_inf) (constantI S_ 32 0#32) (fun _ => rfl) b g hL

/-- The arg-max of a row is the index of its first greatest logit. -/
theorem nearest_first (L : FVec Ideal S2048x8192 .f32) (b : Fin 2048) (g : ℕ → ℝ) (hL : ∀ j : Fin 8192, L (ix2 b j) = (g j.val : EReal)) :
    ∃ k < 8192, nearest (F := Ideal) L (ix1 b) = BitVec.ofNat 32 k ∧ ∀ k' < 8192, g k' < g k ∨ (g k' = g k ∧ k ≤ k') := by
  obtain ⟨k, hk, e, hb⟩ := firsts_eq L b g hL
  refine ⟨k, hk, ?_, hb⟩
  rw [nearest_firsts, Function.comp_apply, e]

/-- The arg-max of a row is its label exactly when the label's logit is the greatest, unless an earlier one is as great. -/
theorem nearest_eq (x : Pts) (c : Cen) (y : Lbl) (L : FVec Ideal S2048x8192 .f32) (b : Fin 2048)
    (hL : ∀ j : Fin 8192, L (ix2 b j) = ((lg x c b j.val : ℝ) : EReal)) (hy : lab y b < 8192)
    (ht : lg x c b (lab y b) = lg x c b (best x c b) → ∀ j < lab y b, lg x c b j ≠ lg x c b (best x c b)) :
    nearest (F := Ideal) L (ix1 b) = y (ix1 b) ↔ lg x c b (lab y b) = lg x c b (best x c b) := by
  obtain ⟨k, hk, e, hb⟩ := nearest_first L b (lg x c b) hL
  have hkb : lg x c b k = lg x c b (best x c b) := by
    refine le_antisymm (le_best x c b k hk) ?_
    rcases hb _ (best_lt x c b) with h | ⟨h, -⟩
    · exact h.le
    · exact h.le
  refine Iff.trans (b := k = lab y b) ?_ ⟨fun h => h ▸ hkb, fun h => ?_⟩
  · rw [e]
    constructor
    · intro h
      have := congrArg BitVec.toNat h
      rw [BitVec.toNat_ofNat, Nat.mod_eq_of_lt (by omega)] at this
      exact this
    · rintro rfl
      exact Folds.ofNat_toNat _
  · rcases hb _ hy with h' | ⟨-, h'⟩
    · exact absurd h' (by rw [h, hkb]; exact lt_irrefl _)
    · rcases h'.lt_or_eq with h2 | h2
      · exact absurd hkb (ht h k h2)
      · exact h2

/-- The reference's loss. -/
theorem lossOf_eq (x : Pts) (y : Lbl) (c : Cen) (hx : RealPts x) (hc : RealCen c) (hy : ∀ b, lab y b < 8192) :
    lossOf (F := Ideal) x y c = fun _ => ((meanLoss x y c : ℝ) : EReal) := by
  have h : loss (F := Ideal) (picked (F := Ideal) (logProbs (F := Ideal) (logits (F := Ideal) x c)) y)
      = fun _ => ((meanLoss x y c : ℝ) : EReal) := by
    refine funext fun i => loss_eq _ (fun b => logp x c b (lab y b)) (fun b => ?_) i
    refine (picked_eq _ y b (hy b)).trans ?_
    exact logProbs_eq x c _ b (logits_eq x c hx hc b) ⟨lab y b, hy b⟩
  unfold lossOf
  rw [h]
  rfl

/-- The reference's score. -/
theorem scoreOf_eq (x : Pts) (y : Lbl) (c : Cen) (hx : RealPts x) (hc : RealCen c) (hy : ∀ b, lab y b < 8192)
    (ht : ∀ b, lg x c b (lab y b) = lg x c b (best x c b) → ∀ j < lab y b, lg x c b j ≠ lg x c b (best x c b)) :
    scoreOf (F := Ideal) x y c = fun _ => ((hits x y c : ℝ) : EReal) := by
  have h : score (F := Ideal) (nearest (F := Ideal) (logits (F := Ideal) x c)) y = fun _ => ((hits x y c : ℝ) : EReal) :=
    funext fun i => score_eq _ y (fun b => lg x c b (lab y b) = lg x c b (best x c b))
      (fun b => nearest_eq x c y _ b (logits_eq x c hx hc b) (hy b) (ht b)) i
  unfold scoreOf
  rw [h]
  rfl

end Cert.Proof.RefValue

end
-- ==== Proof.PreRead.lean ====
/-
  What the precondition says of the arguments: the points and the centroids are real numbers, the labels are in range, and
  no label's logit is the greatest of its row together with an earlier one.
-/
module

public import proofs.«01_k».proof.Proof.Gen.Pre_tame
public import proofs.«01_k».proof.Proof.RefValue

@[expose] public section

set_option maxRecDepth 16384

noncomputable section

namespace Cert.Proof.PreRead

open Cert.ReferenceIdeal Cert.ReferenceIdeal.Gen Idealize.ShloMosaic Cert.Proof.RefRun Cert.Proof.Spec Cert.Proof.RefValue

/-- A value whose absolute value is below `+∞` is a real number. -/
theorem real_of_lt (a : EReal) (h : Ideal.cmp .olt (max a (-a)) (Ideal.ofBits .f32 0x7F800000#32) = 1#1) : a = (a.toReal : EReal) := by
  rw [Consts.pos_inf] at h
  refine (EReal.coe_toReal ?_ ?_).symm
  · rintro rfl
    simp [Ideal.cmp] at h
  · rintro rfl
    simp [Ideal.cmp] at h

/-- The points are real. -/
theorem realPts (x : Pts) (y : Lbl) (c : Cen) (h : (Cert.Pre_tame.fn (F := Ideal) x y c).1 = fun _ => 1#1) : RealPts x :=
  fun b k => real_of_lt _ (congrFun h (ix2 b k))

/-- The centroids are real. -/
theorem realCen (x : Pts) (y : Lbl) (c : Cen) (h : (Cert.Pre_tame.fn (F := Ideal) x y c).2.2.1 = fun _ => 1#1) : RealCen c := by
  intro j k
  refine (real_of_lt _ (congrFun h (ix2 j k))).trans ?_
  unfold ce
  rw [dif_pos j.isLt]

/-- A word from `0` up to `8192`, read signed. -/
theorem lt_of_range (w : BitVec 32) (h : IntOp.andi (IntOp.cmpi .sge w 0#32) (IntOp.cmpi .slt w 8192#32) = 1#1) : w.toNat < 8192 := by
  have e : ∀ p q : Bool, BitVec.ofBool p &&& BitVec.ofBool q = 1#1 → p = true ∧ q = true := by decide
  have h' : BitVec.ofBool ((0#32).sle w) &&& BitVec.ofBool (w.slt 8192#32) = 1#1 := h
  obtain ⟨h1, h2⟩ := e _ _ h'
  rw [BitVec.sle_eq_decide, decide_eq_true_eq] at h1
  rw [BitVec.slt_eq_decide, decide_eq_true_eq] at h2
  have t1 : (0#32).toInt = 0 := by decide
  have t2 : (8192#32).toInt = 8192 := by decide
  rw [t1] at h1
  rw [t2] at h2
  rw [BitVec.toInt_eq_toNat_cond] at h1 h2
  split_ifs at h1 h2 <;> omega

/-- The labels are in range. -/
theorem lab_lt (x : Pts) (y : Lbl) (c : Cen) (h : (Cert.Pre_tame.fn (F := Ideal) x y c).2.1 = fun _ => 1#1) (b : Fin 2048) :
    lab y b < 8192 :=
  lt_of_range _ (congrFun h (ix1 b))

/-- Where a row's entry is its greatest. -/
def top (L : FVec Ideal S2048x8192 .f32) (M : FVec Ideal S2048 .f32) : IVec S2048x8192 1 :=
  cmpf .oeq L (broadcastInDim S2048x8192 ![0, 1] bcast_S2048x1_S2048x8192_0_1 (broadcastInDim S2048x1 ![0] bcast_S2048_S2048x1_0 M))

/-- The labels, as a column over every centroid. -/
def column (y : IVec S2048 32) : IVec S2048x8192 32 :=
  broadcastInDim S2048x8192 ![0, 1] bcast_S2048x1_S2048x8192_0_1 (broadcastInDim S2048x1 ![0] bcast_S2048_S2048x1_0 y)

/-- Where a row's greatest entry is at its label. -/
def topAt (T : IVec S2048x8192 1) (y : IVec S2048 32) : IVec S2048x8192 1 := andi T (cmpi .eq (iotaInDim S2048x8192 32 1) (column y))

/-- Where a row's greatest entry is before its label. -/
def topBefore (T : IVec S2048x8192 1) (y : IVec S2048 32) : IVec S2048x8192 1 := andi T (cmpi .slt (iotaInDim S2048x8192 32 1) (column y))

/-- Whether a row has such a place. -/
def anyOf (P : IVec S2048x8192 1) : IVec S2048 1 := Host.reduce IntOp.ori P (constantI S_ 1 0#1) reducesTo_S2048x8192_S2048_d1 h_S_

/-- The precondition's last part, in these terms. -/
theorem fn_untied (x : Pts) (y : Lbl) (c : Cen) : (Cert.Pre_tame.fn (F := Ideal) x y c).2.2.2
    = noti (andi (anyOf (topAt (top (logits (F := Ideal) x c) (rowMax (logits (F := Ideal) x c))) y))
        (anyOf (topBefore (top (logits (F := Ideal) x c) (rowMax (logits (F := Ideal) x c))) y))) := rfl

theorem topAt_eq (L : FVec Ideal S2048x8192 .f32) (M : FVec Ideal S2048 .f32) (y : IVec S2048 32) (b : Fin 2048) (j : Fin 8192) :
    topAt (top L M) y (ix2 b j) = IntOp.andi (Ideal.cmp .oeq (L (ix2 b j)) (M (ix1 b))) (IntOp.cmpi .eq (BitVec.ofNat 32 j.val) (y (ix1 b))) := by
  pointwise [topAt, top, column]

theorem topBefore_eq (L : FVec Ideal S2048x8192 .f32) (M : FVec Ideal S2048 .f32) (y : IVec S2048 32) (b : Fin 2048) (j : Fin 8192) :
    topBefore (top L M) y (ix2 b j) = IntOp.andi (Ideal.cmp .oeq (L (ix2 b j)) (M (ix1 b))) (IntOp.cmpi .slt (BitVec.ofNat 32 j.val) (y (ix1 b))) := by
  pointwise [topBefore, top, column]

/-- Whether a row of bits has one set. -/
theorem anyOf_eq (P : IVec S2048x8192 1) (b : Fin 2048) : anyOf P (ix1 b) = 1#1 ↔ ∃ j : Fin 8192, P (ix2 b j) = 1#1 :=
  Folds.row_any (n := 2048) (m := 8192) reducesTo_S2048x8192_S2048_d1 h_S_ P (constantI S_ 1 0#1) (fun _ => rfl) b

/-- Not both of two bits are set. -/
theorem not_both (p q : BitVec 1) (h : ~~~(p &&& q) = 1#1) : p = 1#1 → q ≠ 1#1 := by
  revert p q
  decide

/-- No label's logit is the greatest of its row together with an earlier one. -/
theorem untied (x : Pts) (y : Lbl) (c : Cen) (hx : RealPts x) (hc : RealCen c) (hy : ∀ b, lab y b < 8192)
    (h : (Cert.Pre_tame.fn (F := Ideal) x y c).2.2.2 = fun _ => 1#1) (b : Fin 2048)
    (hb : lg x c b (lab y b) = lg x c b (best x c b)) (j : ℕ) (hj : j < lab y b) : lg x c b j ≠ lg x c b (best x c b) := by
  intro e
  have hl := hy b
  have hM := rowMax_eq x c (logits (F := Ideal) x c) b (logits_eq x c hx hc b)
  rw [fn_untied] at h
  refine not_both _ _ (congrFun h (ix1 b)) ((anyOf_eq _ b).mpr ⟨⟨lab y b, hl⟩, ?_⟩) ((anyOf_eq _ b).mpr ⟨⟨j, hj.trans hl⟩, ?_⟩)
  · rw [topAt_eq, hM, logits_eq x c hx hc, hb, show BitVec.ofNat 32 (lab y b) = y (ix1 b) from Folds.ofNat_toNat _]
    simp [Ideal.cmp, IntOp.andi, IntOp.cmpi]
  · have hs : (BitVec.ofNat 32 j).slt (y (ix1 b)) = true := by
      have hn : (y (ix1 b)).toNat < 8192 := hl
      rw [BitVec.slt_eq_decide, Folds.toInt_ofNat j (by omega), BitVec.toInt_eq_toNat_of_lt (by omega), decide_eq_true_eq]
      exact Int.ofNat_lt.mpr hj
    rw [topBefore_eq, hM, logits_eq x c hx hc, e]
    simp [Ideal.cmp, IntOp.andi, IntOp.cmpi, hs]

end Cert.Proof.PreRead

end
-- ==== Proof.Algebraic.lean ====
/-
  The equal results. From memories that agree on the arguments, and arguments that meet the precondition, the kernel and
  the reference both leave the mean loss and the share of points whose label has the greatest logit.
-/
module

public import proofs.«01_k».proof.Defs
public import proofs.«01_k».proof.Proof.KernelValue
public import proofs.«01_k».proof.Proof.RefValue
public import proofs.«01_k».proof.Proof.PreRead

@[expose] public section

noncomputable section

namespace Cert.Proof

open Idealize.ShloMosaic Idealize.ShloMosaic.TcCoe Idealize.SL.Sem Cert.Proof.Spec Cert.Proof.Blocks Cert.Proof.KernelValue

/-- What the precondition says of one device's arguments. -/
structure Tame (x : Pts) (y : Lbl) (c : Cen) : Prop where
  pts : RealPts x
  cen : RealCen c
  lab : ∀ b, lab y b < 8192
  untied : ∀ b, lg x c b (Spec.lab y b) = lg x c b (best x c b) → ∀ j < Spec.lab y b, lg x c b j ≠ lg x c b (best x c b)

/-- It says so. -/
theorem tame_of (x : Pts) (y : Lbl) (c : Cen)
    (h : (Cert.Pre_tame.fn (F := Ideal) x y c).1 = (fun _ => 1#1) ∧ (Cert.Pre_tame.fn (F := Ideal) x y c).2.1 = (fun _ => 1#1)
      ∧ (Cert.Pre_tame.fn (F := Ideal) x y c).2.2.1 = (fun _ => 1#1) ∧ (Cert.Pre_tame.fn (F := Ideal) x y c).2.2.2 = (fun _ => 1#1)) :
    Tame x y c :=
  have hx := PreRead.realPts x y c h.1
  have hy := PreRead.lab_lt x y c h.2.1
  have hc := PreRead.realCen x y c h.2.2.1
  ⟨hx, hc, hy, PreRead.untied x y c hx hc hy h.2.2.2⟩

/-- The kernel leaves the two means. -/
theorem kernel_run (m : (ℓ : Loc Cert.KernelIdeal.nD Cert.KernelIdeal.τ Cert.KernelIdeal.sig) → Buf (Elt Ideal) ℓ)
    (g : Dev Cert.KernelIdeal.nD → PrngReg) (ht : ∀ c, Tame (pts m c) (lbl m c) (cen m c)) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0_0) = lossArr m c
        ∧ r.2.mem ((c.tc : Thread Cert.KernelIdeal.nD Cert.KernelIdeal.τ).loc Cert.KernelIdeal.main_v0_1) = hitsArr m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun _ h c => ⟨(h c).1.trans (arr_loss m c (ht c).pts (ht c).cen (ht c).lab),
    (h c).2.1.trans (arr_hits m c (ht c).pts (ht c).cen (ht c).lab), (h c).2.2⟩) (Cert.KernelIdeal.Value.run_blocks m g)

/-- The reference's results at such arguments. -/
theorem reference_values (x : Pts) (y : Lbl) (c : Cen) (h : Tame x y c) :
    RefRun.lossOf (F := Ideal) x y c = (fun _ => ((meanLoss x y c : ℝ) : EReal))
      ∧ RefRun.scoreOf (F := Ideal) x y c = (fun _ => ((hits x y c : ℝ) : EReal)) :=
  ⟨RefValue.lossOf_eq x y c h.pts h.cen h.lab, RefValue.scoreOf_eq x y c h.pts h.cen h.lab h.untied⟩

/-- Both programs leave the same two results. -/
theorem algebraic :
    algebraic_KernelIdeal_ReferenceIdeal_pre_tame (hKernelIdeal := Cert.KernelIdeal.Gen.facts)
      (hReferenceIdeal := Cert.ReferenceIdeal.Gen.facts) (hPre_tame := Cert.Pre_tame.Gen.facts) := by
  intro m g m' g' hp hm
  have ht : ∀ c, Tame (pts m c) (lbl m c) (cen m c) := fun c => tame_of _ _ _ (hp c)
  refine ⟨lossArr m, hitsArr m, kernel_run m g ht, (θ_run _ _ _).mono (fun r h c => ?_) (RefRun.run m' g')⟩
  obtain ⟨h0, h1, ha⟩ := h c
  obtain ⟨e0, e1, e2⟩ := hm c
  rw [e0, e1, e2] at h0 h1
  have v := reference_values _ _ _ (ht c)
  exact ⟨h0.trans v.1, h1.trans v.2, ha⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.Pre_tame
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_tame.Gen.facts,
    frame_kernel, frame_kernelIdeal, fun m g _ => Cert.KernelIdeal.Gen.frame m g, frame_referenceIdeal,
    fun m g _ => reference_frame m g, preserves, algebraic⟩

end Cert.Proof

end
